-- ==== Defs.lean ====
def Pre_Kernel (m : (ℓ : Loc Cert.Kernel.nD Cert.Kernel.τ Cert.Kernel.sig) → Buf (Elt Bits) ℓ) : Prop :=
  True

def Pre_KernelIdeal [hPre_real_and_unmasked : Cert.Pre_real_and_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_real_and_unmasked : Cert.Pre_real_and_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_real_and_unmasked : Cert.Pre_real_and_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_real_and_unmasked : Cert.Pre_real_and_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_real_and_unmasked : Cert.Pre_real_and_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_real_and_unmasked : Cert.Pre_real_and_unmasked.Facts),
    quiescent_Kernel (hKernel := hKernel)
    ∧ quiescent_KernelIdeal (hKernelIdeal := hKernelIdeal) (hPre_real_and_unmasked := hPre_real_and_unmasked)
    ∧ quiescent_KernelIdeal_pre_none (hKernelIdeal := hKernelIdeal)
    ∧ quiescent_ReferenceIdeal (hReferenceIdeal := hReferenceIdeal) (hPre_real_and_unmasked := hPre_real_and_unmasked)
    ∧ preserves_Kernel_KernelIdeal
    ∧ algebraic_KernelIdeal_ReferenceIdeal (hKernelIdeal := hKernelIdeal) (hReferenceIdeal := hReferenceIdeal) (hPre_real_and_unmasked := hPre_real_and_unmasked)
-- ==== Pre_real_and_unmasked.lean ====
abbrev S16x512x512 : Shape := ⟨3, ![16, 512, 512]⟩
abbrev S16x1x512 : Shape := ⟨3, ![16, 1, 512]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S512x512x5 : Shape := ⟨3, ![512, 512, 5]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S512x512x3 : S_.BroadcastsInDim S512x512x3 (![] : Fin 0 → Fin S512x512x3.rank)
  reducesTo_S512x512x3_S_d0_1_2 : S512x512x3.ReducesTo [0, 1, 2] S_
  bcast_S_S512 : S_.BroadcastsInDim S512 (![] : Fin 0 → Fin S512.rank)
  reducesTo_S512_S_d0 : S512.ReducesTo [0] S_
  bcast_S_S512x512x5 : S_.BroadcastsInDim S512x512x5 (![] : Fin 0 → Fin S512x512x5.rank)
  reducesTo_S512x512x5_S_d0_1_2 : S512x512x5.ReducesTo [0, 1, 2] S_
  bcast_S_S1x512 : S_.BroadcastsInDim S1x512 (![] : Fin 0 → Fin S1x512.rank)
  reducesTo_S1x512_S_d0_1 : S1x512.ReducesTo [0, 1] S_
  bcast_S_S16x1x512 : S_.BroadcastsInDim S16x1x512 (![] : Fin 0 → Fin S16x1x512.rank)
  reducesTo_S16x1x512_S_d0_1_2 : S16x1x512.ReducesTo [0, 1, 2] S_

variable [Facts]

def fn_part2 {F : FTy → Type} [FloatOps F] (main_arg1 : FVec F S16x1x512 .f32) (main_v26 : IVec S_ 1) (main_v32 : IVec S_ 1) : IVec S_ 1 :=
  let main_v33 : IVec S_ 1 := andi main_v26 main_v32
  let main_cst_13 : FVec F S_ .f32 := constant S_ .f32 0x3F800000#32
  let main_v34 : FVec F S16x1x512 .f32 := broadcastInDim S16x1x512 ![] bcast_S_S16x1x512 main_cst_13
  let main_v35 : IVec S16x1x512 1 := cmpf .oeq main_arg1 main_v34
  let main_c_14 : IVec S_ 1 := constantI S_ 1 1#1
  let main_v36 : IVec S_ 1 := (fun x v => Host.reduce IntOp.andi x v reducesTo_S16x1x512_S_d0_1_2 h_S_) main_v35 main_c_14
  let main_v37 : IVec S_ 1 := andi main_v33 main_v36
  main_v37

def fn_part1 {F : FTy → Type} [FloatOps F] (main_arg1 : FVec F S16x1x512 .f32) (main_arg3 : FVec F S512 .f32) (main_arg6 : FVec F S512x512x5 .f32) (main_arg8 : FVec F S1x512 .f32) (main_v12 : IVec S_ 1) (main_v14 : IVec S512 1) (main_v15 : FVec F S512 .f32) : IVec S_ 1 :=
  let main_v16 : IVec S512 1 := cmpf .olt main_arg3 main_v15
  let main_v17 : IVec S512 1 := andi main_v14 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v12 main_v18
  let main_cst_7 : FVec F S_ .f32 := constant S_ .f32 0xFF800000#32
  let main_v20 : FVec F S512x512x5 .f32 := broadcastInDim S512x512x5 ![] bcast_S_S512x512x5 main_cst_7
  let main_v21 : IVec S512x512x5 1 := cmpf .ogt main_arg6 main_v20
  let main_cst_8 : FVec F S_ .f32 := constant S_ .f32 0x7F800000#32
  let main_v22 : FVec F S512x512x5 .f32 := broadcastInDim S512x512x5 ![] bcast_S_S512x512x5 main_cst_8
  let main_v23 : IVec S512x512x5 1 := cmpf .olt main_arg6 main_v22
  let main_v24 : IVec S512x512x5 1 := andi main_v21 main_v23
  let main_c_9 : IVec S_ 1 := constantI S_ 1 1#1
  let main_v25 : IVec S_ 1 := (fun x v => Host.reduce IntOp.andi x v reducesTo_S512x512x5_S_d0_1_2 h_S_) main_v24 main_c_9
  let main_v26 : IVec S_ 1 := andi main_v19 main_v25
  let main_cst_10 : FVec F S_ .f32 := constant S_ .f32 0xFF800000#32
  let main_v27 : FVec F S1x512 .f32 := broadcastInDim S1x512 ![] bcast_S_S1x512 main_cst_10
  let main_v28 : IVec S1x512 1 := cmpf .ogt main_arg8 main_v27
  let main_cst_11 : FVec F S_ .f32 := constant S_ .f32 0x7F800000#32
  let main_v29 : FVec F S1x512 .f32 := broadcastInDim S1x512 ![] bcast_S_S1x512 main_cst_11
  let main_v30 : IVec S1x512 1 := cmpf .olt main_arg8 main_v29
  let main_v31 : IVec S1x512 1 := andi main_v28 main_v30
  let main_c_12 : IVec S_ 1 := constantI S_ 1 1#1
  let main_v32 : IVec S_ 1 := (fun x v => Host.reduce IntOp.andi x v reducesTo_S1x512_S_d0_1 h_S_) main_v31 main_c_12
  fn_part2 (F := F) main_arg1 main_v26 main_v32

def fn {F : FTy → Type} [FloatOps F] (main_arg0 : FVec F S16x512x512 .f32) (main_arg1 : FVec F S16x1x512 .f32) (main_arg2 : FVec F S512x512x3 .f32) (main_arg3 : FVec F S512 .f32) (main_arg4 : FVec F S1x512 .f32) (main_arg5 : FVec F S1 .f32) (main_arg6 : FVec F S512x512x5 .f32) (main_arg7 : FVec F S512 .f32) (main_arg8 : FVec F S1x512 .f32) (main_arg9 : FVec F S1 .f32) : IVec S_ 1 :=
  let main_cst : FVec F S_ .f32 := constant S_ .f32 0xFF800000#32
  let main_v0 : FVec F S16x512x512 .f32 := broadcastInDim S16x512x512 ![] bcast_S_S16x512x512 main_cst
  let main_v1 : IVec S16x512x512 1 := cmpf .ogt main_arg0 main_v0
  let main_cst_0 : FVec F S_ .f32 := constant S_ .f32 0x7F800000#32
  let main_v2 : FVec F S16x512x512 .f32 := broadcastInDim S16x512x512 ![] bcast_S_S16x512x512 main_cst_0
  let main_v3 : IVec S16x512x512 1 := cmpf .olt main_arg0 main_v2
  let main_v4 : IVec S16x512x512 1 := andi main_v1 main_v3
  let main_c : IVec S_ 1 := constantI S_ 1 1#1
  let main_v5 : IVec S_ 1 := (fun x v => Host.reduce IntOp.andi x v reducesTo_S16x512x512_S_d0_1_2 h_S_) main_v4 main_c
  let main_cst_1 : FVec F S_ .f32 := constant S_ .f32 0xFF800000#32
  let main_v6 : FVec F S512x512x3 .f32 := broadcastInDim S512x512x3 ![] bcast_S_S512x512x3 main_cst_1
  let main_v7 : IVec S512x512x3 1 := cmpf .ogt main_arg2 main_v6
  let main_cst_2 : FVec F S_ .f32 := constant S_ .f32 0x7F800000#32
  let main_v8 : FVec F S512x512x3 .f32 := broadcastInDim S512x512x3 ![] bcast_S_S512x512x3 main_cst_2
  let main_v9 : IVec S512x512x3 1 := cmpf .olt main_arg2 main_v8
  let main_v10 : IVec S512x512x3 1 := andi main_v7 main_v9
  let main_c_3 : IVec S_ 1 := constantI S_ 1 1#1
  let main_v11 : IVec S_ 1 := (fun x v => Host.reduce IntOp.andi x v reducesTo_S512x512x3_S_d0_1_2 h_S_) main_v10 main_c_3
  let main_v12 : IVec S_ 1 := andi main_v5 main_v11
  let main_cst_4 : FVec F S_ .f32 := constant S_ .f32 0xFF800000#32
  let main_v13 : FVec F S512 .f32 := broadcastInDim S512 ![] bcast_S_S512 main_cst_4
  let main_v14 : IVec S512 1 := cmpf .ogt main_arg3 main_v13
  let main_cst_5 : FVec F S_ .f32 := constant S_ .f32 0x7F800000#32
  let main_v15 : FVec F S512 .f32 := broadcastInDim S512 ![] bcast_S_S512 main_cst_5
  fn_part1 (F := F) main_arg1 main_arg3 main_arg6 main_arg8 main_v12 main_v14 main_v15
-- ==== Kernel.lean ====
abbrev S16x512x512 : Shape := ⟨3, ![16, 512, 512]⟩
abbrev S16x1x512 : Shape := ⟨3, ![16, 1, 512]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S512x512x5 : Shape := ⟨3, ![512, 512, 5]⟩
abbrev S_ : Shape := ⟨0, ![]⟩
abbrev S16x520x512 : Shape := ⟨3, ![16, 520, 512]⟩
abbrev S3x512x512 : Shape := ⟨3, ![3, 512, 512]⟩
abbrev S512x5 : Shape := ⟨2, ![512, 5]⟩
abbrev S512x1 : Shape := ⟨2, ![512, 1]⟩
abbrev S512x2 : Shape := ⟨2, ![512, 2]⟩
abbrev S512x8 : Shape := ⟨2, ![512, 8]⟩
abbrev S5 : Shape := ⟨1, ![5]⟩
abbrev S2 : Shape := ⟨1, ![2]⟩
abbrev S8 : Shape := ⟨1, ![8]⟩
abbrev S1x8 : Shape := ⟨2, ![1, 8]⟩
abbrev S16x512x8 : Shape := ⟨3, ![16, 512, 8]⟩
abbrev S16x1x128 : Shape := ⟨3, ![16, 1, 128]⟩
abbrev S1x520x512 : Shape := ⟨3, ![1, 520, 512]⟩
abbrev S1x512x8 : Shape := ⟨3, ![1, 512, 8]⟩
abbrev S1x1x128 : Shape := ⟨3, ![1, 1, 128]⟩
abbrev S520x512 : Shape := ⟨2, ![520, 512]⟩
abbrev S512x512 : Shape := ⟨2, ![512, 512]⟩
abbrev S1x512x512 : Shape := ⟨3, ![1, 512, 512]⟩
abbrev S1x512x1 : Shape := ⟨3, ![1, 512, 1]⟩
abbrev S1x1x1 : Shape := ⟨3, ![1, 1, 1]⟩
abbrev S1x512x5 : Shape := ⟨3, ![1, 512, 5]⟩
abbrev S1x128 : Shape := ⟨2, ![1, 128]⟩
abbrev S16x512x1 : Shape := ⟨3, ![16, 512, 1]⟩
abbrev S16x512 : Shape := ⟨2, ![16, 512]⟩
abbrev S16x1x1 : Shape := ⟨3, ![16, 1, 1]⟩
abbrev S16 : Shape := ⟨1, ![16]⟩
abbrev S512x16 : Shape := ⟨2, ![512, 16]⟩
abbrev S1x16 : Shape := ⟨2, ![1, 16]⟩
abbrev S1x1x512 : Shape := ⟨3, ![1, 1, 512]⟩

abbrev nBuf : Space → Nat
  | .hbm => 56
  | .vmem => 28
  | .smem => 0
  | _ => 0

abbrev bufTy : (tb : Table) → Fin (tcTables nBuf tb) → BufTy
  | .hbm, ⟨0, _⟩ => ⟨S16x512x512, .f32⟩
  | .hbm, ⟨1, _⟩ => ⟨S16x1x512, .f32⟩
  | .hbm, ⟨2, _⟩ => ⟨S512x512x3, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S512x512x5, .f32⟩
  | .hbm, ⟨7, _⟩ => ⟨S512, .f32⟩
  | .hbm, ⟨8, _⟩ => ⟨S1x512, .f32⟩
  | .hbm, ⟨9, _⟩ => ⟨S1, .f32⟩
  | .hbm, ⟨10, _⟩ => ⟨S_, .i32⟩
  | .hbm, ⟨11, _⟩ => ⟨S_, .f32⟩
  | .hbm, ⟨12, _⟩ => ⟨S16x520x512, .f32⟩
  | .hbm, ⟨13, _⟩ => ⟨S3x512x512, .f32⟩
  | .hbm, ⟨14, _⟩ => ⟨S1x512, .f32⟩
  | .hbm, ⟨15, _⟩ => ⟨S512, .f32⟩
  | .hbm, ⟨16, _⟩ => ⟨S512x5, .f32⟩
  | .hbm, ⟨17, _⟩ => ⟨S512x1, .f32⟩
  | .hbm, ⟨18, _⟩ => ⟨S_, .f32⟩
  | .hbm, ⟨19, _⟩ => ⟨S512x2, .f32⟩
  | .hbm, ⟨20, _⟩ => ⟨S512x8, .f32⟩
  | .hbm, ⟨21, _⟩ => ⟨S1x512, .f32⟩
  | .hbm, ⟨22, _⟩ => ⟨S512, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S5, .f32⟩
  | .hbm, ⟨28, _⟩ => ⟨S_, .f32⟩
  | .hbm, ⟨29, _⟩ => ⟨S2, .f32⟩
  | .hbm, ⟨30, _⟩ => ⟨S8, .f32⟩
  | .hbm, ⟨31, _⟩ => ⟨S1x8, .f32⟩
  | .hbm, ⟨32, _⟩ => ⟨S16x512x8, .f32⟩
  | .hbm, ⟨33, _⟩ => ⟨S16x1x128, .f32⟩
  | .hbm, ⟨34, _⟩ => ⟨S16x512x1, .f32⟩
  | .hbm, ⟨35, _⟩ => ⟨S16x512, .f32⟩
  | .hbm, ⟨36, _⟩ => ⟨S16x1x1, .f32⟩
  | .hbm, ⟨37, _⟩ => ⟨S16, .f32⟩
  | .hbm, ⟨38, _⟩ => ⟨S16x1x1, .f32⟩
  | .hbm, ⟨39, _⟩ => ⟨S16, .f32⟩
  | .hbm, ⟨40, _⟩ => ⟨S512x16, .f32⟩
  | .hbm, ⟨41, _⟩ => ⟨S512x16, .f32⟩
  | .hbm, ⟨42, _⟩ => ⟨S512x16, .f32⟩
  | .hbm, ⟨43, _⟩ => ⟨S512x16, .f32⟩
  | .hbm, ⟨44, _⟩ => ⟨S512x16, .f32⟩
  | .hbm, ⟨45, _⟩ => ⟨S512x16, .f32⟩
  | .hbm, ⟨46, _⟩ => ⟨S16x512, .f32⟩
  | .hbm, ⟨47, _⟩ => ⟨S16x512, .f32⟩
  | .hbm, ⟨48, _⟩ => ⟨S16x1x512, .f32⟩
  | .hbm, ⟨49, _⟩ => ⟨S16x512, .f32⟩
  | .hbm, ⟨50, _⟩ => ⟨S16x1x512, .f32⟩
  | .hbm, ⟨51, _⟩ => ⟨S16x512, .f32⟩
  | .hbm, ⟨52, _⟩ => ⟨S16x1x512, .f32⟩
  | .hbm, ⟨53, _⟩ => ⟨S16x512, .f32⟩
  | .hbm, ⟨54, _⟩ => ⟨S16x1x512, .f32⟩
  | .hbm, ⟨55, _⟩ => ⟨S16x512x512, .f32⟩
  | .local _ .vmem, ⟨0, _⟩ => ⟨S1x520x512, .f32⟩
  | .local _ .vmem, ⟨1, _⟩ => ⟨S1x520x512, .f32⟩
  | .local _ .vmem, ⟨2, _⟩ => ⟨S3x512x512, .f32⟩
  | .local _ .vmem, ⟨3, _⟩ => ⟨S1x512, .f32⟩
  | .local _ .vmem, ⟨4, _⟩ => ⟨S512x8, .f32⟩
  | .local _ .vmem, ⟨5, _⟩ => ⟨S1x8, .f32⟩
  | .local _ .vmem, ⟨6, _⟩ => ⟨S1x512x8, .f32⟩
  | .local _ .vmem, ⟨7, _⟩ => ⟨S1x512x8, .f32⟩
  | .local _ .vmem, ⟨8, _⟩ => ⟨S1x1x128, .f32⟩
  | .local _ .vmem, ⟨9, _⟩ => ⟨S1x1x128, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | .local _ .vmem, ⟨14, _⟩ => ⟨S512x16, .f32⟩
  | .local _ .vmem, ⟨15, _⟩ => ⟨S512x16, .f32⟩
  | .local _ .vmem, ⟨16, _⟩ => ⟨S1x512x512, .f32⟩
  | .local _ .vmem, ⟨17, _⟩ => ⟨S1x512x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x512x512, .f32⟩
  | .local _ .vmem, ⟨27, _⟩ => ⟨S1x512x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x520x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

@[reducible] def k1_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let v21 : Index := Scalar.indexCast arg7
  let c0_14 : Index := 0#32
  ![v21.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S16x512x512 : Shape := ⟨3, ![16, 512, 512]⟩
abbrev S16x1x512 : Shape := ⟨3, ![16, 1, 512]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S512x512x5 : Shape := ⟨3, ![512, 512, 5]⟩
abbrev S_ : Shape := ⟨0, ![]⟩
abbrev S16x514x512 : Shape := ⟨3, ![16, 514, 512]⟩
abbrev S512x512x1 : Shape := ⟨3, ![512, 512, 1]⟩
abbrev S512x512 : Shape := ⟨2, ![512, 512]⟩
abbrev S1x1x512 : Shape := ⟨3, ![1, 1, 512]⟩
abbrev S512x5x16x512 : Shape := ⟨4, ![512, 5, 16, 512]⟩
abbrev S16x512x5x512 : Shape := ⟨4, ![16, 512, 5, 512]⟩
abbrev S16x2560x512 : Shape := ⟨3, ![16, 2560, 512]⟩
abbrev S512x1 : Shape := ⟨2, ![512, 1]⟩
abbrev S16x2560x1 : Shape := ⟨3, ![16, 2560, 1]⟩
abbrev S1x1x1 : Shape := ⟨3, ![1, 1, 1]⟩
abbrev S1x16x1x1x1x512 : Shape := ⟨6, ![1, 16, 1, 1, 1, 512]⟩
abbrev S1x16x5x1x1x512 : Shape := ⟨6, ![1, 16, 5, 1, 1, 512]⟩
abbrev S16x5x512 : Shape := ⟨3, ![16, 5, 512]⟩
abbrev S16x512x5 : Shape := ⟨3, ![16, 512, 5]⟩
abbrev S16x2560 : Shape := ⟨2, ![16, 2560]⟩
abbrev S16 : Shape := ⟨1, ![16]⟩
abbrev S16x512x1 : Shape := ⟨3, ![16, 512, 1]⟩
abbrev S16x512 : Shape := ⟨2, ![16, 512]⟩
abbrev S512x16 : Shape := ⟨2, ![512, 16]⟩
abbrev S512x16x512 : Shape := ⟨3, ![512, 16, 512]⟩
abbrev S1x16 : Shape := ⟨2, ![1, 16]⟩
abbrev S1x16x512 : Shape := ⟨3, ![1, 16, 512]⟩
abbrev S16x1 : Shape := ⟨2, ![16, 1]⟩

abbrev nBuf : Space → Nat
  | .hbm => 198
  | .vmem => 0
  | .smem => 0
  | _ => 0

abbrev hbmTy0_0 (i : Nat) : BufTy := match i % 128 with
  | 0 => ⟨S16x512x512, .f32⟩
  | 1 => ⟨S16x1x512, .f32⟩
  | 2 => ⟨S512x512x3, .f32⟩
  | 3 => ⟨S512, .f32⟩
  | 4 => ⟨S1x512, .f32⟩
  | 5 => ⟨S1, .f32⟩
  | 6 => ⟨S512x512x5, .f32⟩
  | 7 => ⟨S512, .f32⟩
  | 8 => ⟨S1x512, .f32⟩
  | 9 => ⟨S1, .f32⟩
  | 10 => ⟨S_, .i32⟩
  | 11 => ⟨S_, .f32⟩
  | 12 => ⟨S16x514x512, .f32⟩
  | 13 => ⟨S16x512x512, .f32⟩
  | 14 => ⟨S512x512x1, .f32⟩
  | 15 => ⟨S512x512, .f32⟩
  | 16 => ⟨S16x512x512, .f32⟩
  | 17 => ⟨S_, .f32⟩
  | 18 => ⟨S16x512x512, .f32⟩
  | 19 => ⟨S16x512x512, .f32⟩
  | 20 => ⟨S16x512x512, .f32⟩
  | 21 => ⟨S512x512x1, .f32⟩
  | 22 => ⟨S512x512, .f32⟩
  | 23 => ⟨S16x512x512, .f32⟩
  | 24 => ⟨S16x512x512, .f32⟩
  | 25 => ⟨S16x512x512, .f32⟩
  | 26 => ⟨S512x512x1, .f32⟩
  | 27 => ⟨S512x512, .f32⟩
  | 28 => ⟨S16x512x512, .f32⟩
  | 29 => ⟨S16x512x512, .f32⟩
  | 30 => ⟨S1x1x512, .f32⟩
  | 31 => ⟨S16x512x512, .f32⟩
  | 32 => ⟨S16x512x512, .f32⟩
  | 33 => ⟨S_, .f32⟩
  | 34 => ⟨S16x512x512, .f32⟩
  | 35 => ⟨S16x512x512, .f32⟩
  | 36 => ⟨S512x5x16x512, .f32⟩
  | 37 => ⟨S16x512x5x512, .f32⟩
  | 38 => ⟨S16x2560x512, .f32⟩
  | 39 => ⟨S1x1x512, .f32⟩
  | 40 => ⟨S16x2560x512, .f32⟩
  | 41 => ⟨S16x2560x512, .f32⟩
  | 42 => ⟨S512x1, .f32⟩
  | 43 => ⟨S16x2560x1, .f32⟩
  | 44 => ⟨S1x1x1, .f32⟩
  | 45 => ⟨S16x2560x1, .f32⟩
  | 46 => ⟨S16x2560x1, .f32⟩
  | 47 => ⟨S16x2560x1, .f32⟩
  | 48 => ⟨S16x2560x1, .f32⟩
  | 49 => ⟨S_, .f32⟩
  | 50 => ⟨S16x2560x1, .f32⟩
  | 51 => ⟨S16x2560x1, .f32⟩
  | 52 => ⟨S_, .f32⟩
  | 53 => ⟨S16x2560x1, .f32⟩
  | 54 => ⟨S16x2560x1, .f32⟩
  | 55 => ⟨S_, .f32⟩
  | 56 => ⟨S16x2560x1, .f32⟩
  | 57 => ⟨S16x2560x1, .f32⟩
  | 58 => ⟨S_, .f32⟩
  | 59 => ⟨S16x2560x1, .f32⟩
  | 60 => ⟨S16x2560x1, .f32⟩
  | 61 => ⟨S_, .f32⟩
  | 62 => ⟨S16x2560x1, .f32⟩
  | 63 => ⟨S16x2560x1, .f32⟩
  | 64 => ⟨S1x16x1x1x1x512, .f32⟩
  | 65 => ⟨S1x16x5x1x1x512, .f32⟩
  | 66 => ⟨S16x5x512, .f32⟩
  | 67 => ⟨S16x512x5, .f32⟩
  | 68 => ⟨S16x2560, .f32⟩
  | 69 => ⟨S16x2560x1, .f32⟩
  | 70 => ⟨S16x2560x1, .f32⟩
  | 71 => ⟨S16x2560, .f32⟩
  | 72 => ⟨S_, .f32⟩
  | 73 => ⟨S16, .f32⟩
  | 74 => ⟨S512x1, .f32⟩
  | 75 => ⟨S16x512x1, .f32⟩
  | 76 => ⟨S1x1x1, .f32⟩
  | 77 => ⟨S16x512x1, .f32⟩
  | 78 => ⟨S16x512x1, .f32⟩
  | 79 => ⟨S16x512x1, .f32⟩
  | 80 => ⟨S16x512x1, .f32⟩
  | 81 => ⟨S_, .f32⟩
  | 82 => ⟨S16x512x1, .f32⟩
  | 83 => ⟨S16x512x1, .f32⟩
  | 84 => ⟨S_, .f32⟩
  | 85 => ⟨S16x512x1, .f32⟩
  | 86 => ⟨S16x512x1, .f32⟩
  | 87 => ⟨S_, .f32⟩
  | 88 => ⟨S16x512x1, .f32⟩
  | 89 => ⟨S16x512x1, .f32⟩
  | 90 => ⟨S_, .f32⟩
  | 91 => ⟨S16x512x1, .f32⟩
  | 92 => ⟨S16x512x1, .f32⟩
  | 93 => ⟨S_, .f32⟩
  | 94 => ⟨S16x512x1, .f32⟩
  | 95 => ⟨S16x512x1, .f32⟩
  | 96 => ⟨S16x512x1, .f32⟩
  | 97 => ⟨S16x512x1, .f32⟩
  | 98 => ⟨S16x512, .f32⟩
  | 99 => ⟨S_, .f32⟩
  | 100 => ⟨S16, .f32⟩
  | 101 => ⟨S_, .f32⟩
  | 102 => ⟨S16, .f32⟩
  | 103 => ⟨S_, .f32⟩
  | 104 => ⟨S16x512, .f32⟩
  | 105 => ⟨S512x16, .f32⟩
  | 106 => ⟨S512x16x512, .f32⟩
  | 107 => ⟨S_, .f32⟩
  | 108 => ⟨S512x16, .f32⟩
  | 109 => ⟨S_, .f32⟩
  | 110 => ⟨S512x16x512, .f32⟩
  | 111 => ⟨S_, .i32⟩
  | 112 => ⟨S512x16, .f32⟩
  | 113 => ⟨S512x16x512, .f32⟩
  | 114 => ⟨S_, .i32⟩
  | 115 => ⟨S16, .f32⟩
  | 116 => ⟨S16x512, .f32⟩
  | 117 => ⟨S512x16, .f32⟩
  | 118 => ⟨S512x16x512, .f32⟩
  | 119 => ⟨S_, .i32⟩
  | 120 => ⟨S_, .i1⟩
  | 121 => ⟨S_, .i32⟩
  | 122 => ⟨S1x16, .f32⟩
  | 123 => ⟨S16, .f32⟩
  | 124 => ⟨S_, .i32⟩
  | 125 => ⟨S_, .i32⟩
  | 126 => ⟨S1x16x512, .f32⟩
  | 127 => ⟨S16x512, .f32⟩
  | _ => ⟨S16x512x512, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S_, .f32⟩
  | 5 => ⟨S16, .f32⟩
  | 6 => ⟨S16, .i1⟩
  | 7 => ⟨S_, .f32⟩
  | 8 => ⟨S16, .f32⟩
  | 9 => ⟨S16, .f32⟩
  | 10 => ⟨S16, .f32⟩
  | 11 => ⟨S16, .f32⟩
  | 12 => ⟨S16, .f32⟩
  | 13 => ⟨S16x1, .f32⟩
  | 14 => ⟨S16x512, .f32⟩
  | 15 => ⟨S16x512, .f32⟩
  | 16 => ⟨S16x512, .f32⟩
  | 17 => ⟨S16x1, .i1⟩
  | 18 => ⟨S16x1, .f32⟩
  | 19 => ⟨S16x512, .f32⟩
  | 20 => ⟨S16x512, .f32⟩
  | 21 => ⟨S16x512, .i1⟩
  | 22 => ⟨S16x512, .f32⟩
  | 23 => ⟨S1x16, .f32⟩
  | 24 => ⟨S_, .i32⟩
  | 25 => ⟨S512x16, .f32⟩
  | 26 => ⟨S1x16x512, .f32⟩
  | 27 => ⟨S_, .i32⟩
  | 28 => ⟨S_, .i32⟩
  | 29 => ⟨S512x16x512, .f32⟩
  | 30 => ⟨S_, .i32⟩
  | 31 => ⟨S_, .i32⟩
  | 32 => ⟨S16x512, .f32⟩
  | 33 => ⟨S16x512x512, .f32⟩
  | 34 => ⟨S_, .f32⟩
  | 35 => ⟨S16x512, .f32⟩
  | 36 => ⟨S16x512, .i1⟩
  | 37 => ⟨S_, .i32⟩
  | 38 => ⟨S_, .i32⟩
  | 39 => ⟨S512, .i32⟩
  | 40 => ⟨S512, .i32⟩
  | 41 => ⟨S16x512, .i32⟩
  | 42 => ⟨S16x512, .i32⟩
  | 43 => ⟨S16x512, .i32⟩
  | 44 => ⟨S512, .i32⟩
  | 45 => ⟨S16x512, .i32⟩
  | 46 => ⟨S16x512, .i32⟩
  | 47 => ⟨S16x512, .i32⟩
  | 48 => ⟨S_, .i32⟩
  | 49 => ⟨S16x512, .i32⟩
  | 50 => ⟨S16x512, .i1⟩
  | 51 => ⟨S_, .i32⟩
  | 52 => ⟨S16x512, .i32⟩
  | 53 => ⟨S16x512, .i32⟩
  | 54 => ⟨S16x512, .i32⟩
  | 55 => ⟨S16x512x1, .i32⟩
  | 56 => ⟨S16x512x512, .f32⟩
  | 57 => ⟨S_, .i32⟩
  | 58 => ⟨S16x512, .i32⟩
  | 59 => ⟨S16x512, .i1⟩
  | 60 => ⟨S_, .i32⟩
  | 61 => ⟨S16x512, .i32⟩
  | 62 => ⟨S16x512, .i32⟩
  | 63 => ⟨S16x512, .i32⟩
  | 64 => ⟨S16x512x1, .i32⟩
  | 65 => ⟨S16x512, .i1⟩
  | 66 => ⟨S16x512x1, .i1⟩
  | 67 => ⟨S16x512x1, .f32⟩
  | 68 => ⟨S16x512x512, .f32⟩
  | 69 => ⟨S16x512x512, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_cst : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_0 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_call2_cst : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_5 : Ref sig .tc := ⟨.hbm, 81, rfl⟩
abbrev main_v59 : Ref sig .tc := ⟨.hbm, 82, rfl⟩
abbrev main_v60 : Ref sig .tc := ⟨.hbm, 83, rfl⟩
abbrev main_cst_6 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_call3_cst : Ref sig .tc := ⟨.hbm, 93, rfl⟩
abbrev main_call3_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_9 : Ref sig .tc := ⟨.hbm, 99, rfl⟩
abbrev main_v71 : Ref sig .tc := ⟨.hbm, 100, rfl⟩
abbrev main_cst_10 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_cst_13 : Ref sig .tc := ⟨.hbm, 109, rfl⟩
abbrev main_v77 : Ref sig .tc := ⟨.hbm, 110, rfl⟩
abbrev main_c_14 : Ref sig .tc := ⟨.hbm, 111, rfl⟩
abbrev main_v78_0 : Ref sig .tc := ⟨.hbm, 112, rfl⟩
abbrev main_v78_1 : Ref sig .tc := ⟨.hbm, 113, rfl⟩
abbrev main_v78_2 : Ref sig .tc := ⟨.hbm, 114, rfl⟩
abbrev main_v78_3 : Ref sig .tc := ⟨.hbm, 115, rfl⟩
abbrev main_v78_4 : Ref sig .tc := ⟨.hbm, 116, rfl⟩
abbrev main_v78_5 : Ref sig .tc := ⟨.hbm, 117, rfl⟩
abbrev main_v78_6 : Ref sig .tc := ⟨.hbm, 118, rfl⟩
abbrev main_while0c_c_28 : Ref sig .tc := ⟨.hbm, 119, rfl⟩
abbrev main_while0c_v103 : Ref sig .tc := ⟨.hbm, 120, rfl⟩
abbrev main_while0b_call4_c : Ref sig .tc := ⟨.hbm, 121, rfl⟩
abbrev main_while0b_call4_v0 : Ref sig .tc := ⟨.hbm, 122, rfl⟩
abbrev main_while0b_v103 : Ref sig .tc := ⟨.hbm, 123, rfl⟩
abbrev main_while0b_call5_c : Ref sig .tc := ⟨.hbm, 124, rfl⟩
abbrev main_while0b_call5_c_0 : Ref sig .tc := ⟨.hbm, 125, rfl⟩
abbrev main_while0b_call5_v0 : Ref sig .tc := ⟨.hbm, 126, rfl⟩
abbrev main_while0b_v104 : Ref sig .tc := ⟨.hbm, 127, rfl⟩
abbrev main_while0b_cst_28 : Ref sig .tc := ⟨.hbm, 128, rfl⟩
abbrev main_while0b_v105 : Ref sig .tc := ⟨.hbm, 129, rfl⟩
abbrev main_while0b_v106 : Ref sig .tc := ⟨.hbm, 130, rfl⟩
abbrev main_while0b_v107 : Ref sig .tc := ⟨.hbm, 131, rfl⟩
abbrev main_while0b_cst_29 : Ref sig .tc := ⟨.hbm, 132, rfl⟩
abbrev main_while0b_v108 : Ref sig .tc := ⟨.hbm, 133, rfl⟩
abbrev main_while0b_v109 : Ref sig .tc := ⟨.hbm, 134, rfl⟩
abbrev main_while0b_cst_30 : Ref sig .tc := ⟨.hbm, 135, rfl⟩
abbrev main_while0b_v110 : Ref sig .tc := ⟨.hbm, 136, rfl⟩
abbrev main_while0b_v111 : Ref sig .tc := ⟨.hbm, 137, rfl⟩
abbrev main_while0b_v112 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_v118 : Ref sig .tc := ⟨.hbm, 144, rfl⟩
abbrev main_while0b_v119 : Ref sig .tc := ⟨.hbm, 145, rfl⟩
abbrev main_while0b_v120 : Ref sig .tc := ⟨.hbm, 146, rfl⟩
abbrev main_while0b_v121 : Ref sig .tc := ⟨.hbm, 147, rfl⟩
abbrev main_while0b_v122 : Ref sig .tc := ⟨.hbm, 148, rfl⟩
abbrev main_while0b_call8_v0 : Ref sig .tc := ⟨.hbm, 149, rfl⟩
abbrev main_while0b_v123 : Ref sig .tc := ⟨.hbm, 150, rfl⟩
abbrev main_while0b_call9_v0 : Ref sig .tc := ⟨.hbm, 151, rfl⟩
abbrev main_while0b_call9_c : Ref sig .tc := ⟨.hbm, 152, rfl⟩
abbrev main_while0b_v124 : Ref sig .tc := ⟨.hbm, 153, rfl⟩
abbrev main_while0b_call10_v0 : Ref sig .tc := ⟨.hbm, 154, rfl⟩
abbrev main_while0b_call10_c : Ref sig .tc := ⟨.hbm, 155, rfl⟩
abbrev main_while0b_call10_c_0 : Ref sig .tc := ⟨.hbm, 156, rfl⟩
abbrev main_while0b_v125 : Ref sig .tc := ⟨.hbm, 157, rfl⟩
abbrev main_while0b_c_31 : Ref sig .tc := ⟨.hbm, 158, rfl⟩
abbrev main_while0b_v126 : Ref sig .tc := ⟨.hbm, 159, rfl⟩
abbrev main_v79 : Ref sig .tc := ⟨.hbm, 160, rfl⟩
abbrev main_v80 : Ref sig .tc := ⟨.hbm, 161, rfl⟩
abbrev main_cst_15 : Ref sig .tc := ⟨.hbm, 162, rfl⟩
abbrev main_v81 : Ref sig .tc := ⟨.hbm, 163, rfl⟩
abbrev main_v82 : Ref sig .tc := ⟨.hbm, 164, rfl⟩
abbrev main_c_16 : Ref sig .tc := ⟨.hbm, 165, rfl⟩
abbrev main_c_17 : Ref sig .tc := ⟨.hbm, 166, rfl⟩
abbrev main_call11_v0 : Ref sig .tc := ⟨.hbm, 167, rfl⟩
abbrev main_call11_v1 : Ref sig .tc := ⟨.hbm, 168, rfl⟩
abbrev main_call11_v2 : Ref sig .tc := ⟨.hbm, 169, rfl⟩
abbrev main_call11_v3 : Ref sig .tc := ⟨.hbm, 170, rfl⟩
abbrev main_v83 : Ref sig .tc := ⟨.hbm, 171, rfl⟩
abbrev main_call12_v0 : Ref sig .tc := ⟨.hbm, 172, rfl⟩
abbrev main_call12_v1 : Ref sig .tc := ⟨.hbm, 173, rfl⟩
abbrev main_call12_v2_0 : Ref sig .tc := ⟨.hbm, 174, rfl⟩
abbrev main_v84 : Ref sig .tc := ⟨.hbm, 175, rfl⟩
abbrev main_c_18 : Ref sig .tc := ⟨.hbm, 176, rfl⟩
abbrev main_v85 : Ref sig .tc := ⟨.hbm, 177, rfl⟩
abbrev main_v86 : Ref sig .tc := ⟨.hbm, 178, rfl⟩
abbrev main_c_19 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_c_20 : Ref sig .tc := ⟨.hbm, 185, rfl⟩
abbrev main_v92 : Ref sig .tc := ⟨.hbm, 186, rfl⟩
abbrev main_v93 : Ref sig .tc := ⟨.hbm, 187, rfl⟩
abbrev main_c_21 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩

abbrev nD : Nat := 1
abbrev τ : Topo := Topo.v7x

variable {F : FTy → Type} [FloatOps F]

abbrev main_while0_count : Scf.Loop 32 := ⟨0#32, 512#32, 1#32⟩
-- ==== Proof.Scan.lean ====
/- The second kernel's body: a counted loop of 512 trips that carries the two accumulators of the
   scan and stores one row of each of its five results per trip, then two masked rewrites. Here the
   loop is proved with every row named by an explicit recursion over the rows of the input. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Exec
public import Idealize.ShloMosaic.Lib.ValueIdxCore
public import Idealize.ShloMosaic.Lib.Pipeline.Kit
public import Idealize.ShloMosaic.Lib.Pipeline.FrameBody
public import Idealize.ShloMosaic.Lib.Pipeline.Value
public import Idealize.ShloMosaic.Lib.Pipeline.ValueKit
public import Idealize.ShloMosaic.Lib.Tactic

@[expose] public section

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle of row `k`. -/
abbrev rowRect (k : Fin k1_t1_loop.trips) : Rect S512x16 :=
  Rect.unit (s := S512x16) (k1_off1 k) S1x16.size (k1_off1_inb k)

/-- The two accumulators. -/
abbrev Carry (F : FTy → Type) : Type := FVec F S1x16 .f32 × FVec F S1x16 .f32

/-- Row `k` of the input. -/
abbrev inRow (X : Vec F S512x16 .f32) (k : Fin k1_t1_loop.trips) : Vec F S1x16 .f32 := View.ld X (rowRect k)

/-- The accumulators after trip `k`, from those before it. -/
def nextCarry (X : Vec F S512x16 .f32) (k : Fin k1_t1_loop.trips) (s : Carry F) : Carry F :=
  (k1_pay8 s.1 (inRow X k), k1_pay7 s.1 s.2 (inRow X k))

/-- The accumulators before trip `k`. -/
def carry (X : Vec F S512x16 .f32) : ℕ → Carry F
  | 0 => (k1_pay1, k1_pay1)
  | k + 1 => if h : k < k1_t1_loop.trips then nextCarry X ⟨k, h⟩ (carry X k) else carry X k

theorem carry_zero (X : Vec F S512x16 .f32) : carry X 0 = (k1_pay1, k1_pay1) := rfl

theorem carry_succ (X : Vec F S512x16 .f32) (k : Fin k1_t1_loop.trips) :
    carry X (k.val + 1) = nextCarry X k (carry X k.val) := by
  rw [carry, dif_pos k.isLt]

/-- The rows `g` below `k` as stores, the last first. -/
def rows (g : Fin k1_t1_loop.trips → Vec F S1x16 .f32) : ℕ → List (View.Piece (Elt F) S512x16 .f32)
  | 0 => []
  | k + 1 => if h : k < k1_t1_loop.trips then ⟨rowRect ⟨k, h⟩, g ⟨k, h⟩⟩ :: rows g k else rows g k

theorem rows_succ (g : Fin k1_t1_loop.trips → Vec F S1x16 .f32) (k : Fin k1_t1_loop.trips) :
    rows g (k.val + 1) = ⟨rowRect k, g k⟩ :: rows g k.val := by
  rw [rows, dif_pos k.isLt]

/-- Row `k` of the first result: the accumulator plus the input. -/
def fireRow (X : Vec F S512x16 .f32) (k : Fin k1_t1_loop.trips) : Vec F S1x16 .f32 :=
  k1_pay3 (carry X k.val).1 (inRow X k)
/-- Row `k` of the weight given to the segment being filled. -/
def curRow (X : Vec F S512x16 .f32) (k : Fin k1_t1_loop.trips) : Vec F S1x16 .f32 :=
  k1_pay5 (carry X k.val).1 (inRow X k)
/-- Row `k` of the weight left for the next segment. -/
def remRow (X : Vec F S512x16 .f32) (k : Fin k1_t1_loop.trips) : Vec F S1x16 .f32 :=
  k1_pay6 (carry X k.val).1 (inRow X k)
/-- Row `k` of the number of segments finished before the row. -/
def segRow (X : Vec F S512x16 .f32) (k : Fin k1_t1_loop.trips) : Vec F S1x16 .f32 :=
  (carry X k.val).2
/-- Row `k` of the number of segments finished with the row. -/
def nextSegRow (X : Vec F S512x16 .f32) (k : Fin k1_t1_loop.trips) : Vec F S1x16 .f32 :=
  k1_pay7 (carry X k.val).1 (carry X k.val).2 (inRow X k)

/-- What one trip holds: the input to read, the five results to write. -/
abbrev Held (c : Dev nD) (arg1 arg2 arg3 arg4 arg5 arg6 : Memref sig .tc .vmem S512x16 .f32)
    (X : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f6 : BufTy.Contents (Elt F) arg6.view.ty) : sProp 𝕄 :=
  iprop((arg1.view.loc (c : Thread nD τ) ↦[arg1.view.set]{fullShare} X)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6))

/-- One trip from the accumulators `s`: a row stored in each result, the next accumulators yielded. -/
theorem trip (𝒱 : Variants) (c : Dev nD) (bd : Option 𝒱.V) (E : Set ℕ) (i : grid1.Coords)
    (arg1 : Memref sig .tc .vmem S512x16 .f32) (harg1 : arg1.IsWhole) (arg2 : Memref sig .tc .vmem S512x16 .f32) (harg2 : arg2.IsWhole)
    (arg3 : Memref sig .tc .vmem S512x16 .f32) (harg3 : arg3.IsWhole) (arg4 : Memref sig .tc .vmem S512x16 .f32) (harg4 : arg4.IsWhole)
    (arg5 : Memref sig .tc .vmem S512x16 .f32) (harg5 : arg5.IsWhole) (arg6 : Memref sig .tc .vmem S512x16 .f32) (harg6 : arg6.IsWhole)
    (k : Fin k1_t1_loop.trips) (s : Carry F)
    (X : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f6 : BufTy.Contents (Elt F) arg6.view.ty) :
    Held (F := F) c arg1 arg2 arg3 arg4 arg5 arg6 X f2 f3 f4 f5 f6
      ⊢ wp frame (wpE (defs₀ (F := F)) 𝒱 (c : Thread nD τ) bd) E
          (k1_t1_body (F := F) i arg1 harg1 arg2 harg2 arg3 harg3 arg4 harg4 arg5 harg5 arg6 harg6 k s)
          (fun y => iprop(⌜y = nextCarry (arg1.view.read (Elt F) X) k s⌝
            ∗ Held (F := F) c arg1 arg2 arg3 arg4 arg5 arg6 X
                (arg2.view.writes (Elt F) f2 [⟨rowRect k, k1_pay3 s.1 (inRow (arg1.view.read (Elt F) X) k)⟩])
                (arg3.view.writes (Elt F) f3 [⟨rowRect k, k1_pay5 s.1 (inRow (arg1.view.read (Elt F) X) k)⟩])
                (arg4.view.writes (Elt F) f4 [⟨rowRect k, k1_pay6 s.1 (inRow (arg1.view.read (Elt F) X) k)⟩])
                (arg5.view.writes (Elt F) f5 [⟨rowRect k, s.2⟩])
                (arg6.view.writes (Elt F) f6 [⟨rowRect k, k1_pay7 s.1 s.2 (inRow (arg1.view.read (Elt F) X) k)⟩]))) := by
  have hk : k.val < 512 := Nat.lt_of_lt_of_le k.isLt k1_t1_abs.2.1
  obtain ⟨s1, s2⟩ := s
  unfold k1_t1_body
  iintro ⟨H1, H2, H3, H4, H5, H6⟩
  sl_exec
  sl_step
  isplitr
  · ipureintro; rfl
  isplitl [H1]; · iexact H1
  isplitl [H2]; · iexact H2
  isplitl [H3]; · iexact H3
  isplitl [H4]; · iexact H4
  isplitl [H5]; · iexact H5
  iexact H6

/-- The invariant before trip `k`: the input in place, the results with their rows below `k` stored over
    what they held, the accumulators those before trip `k`. -/
abbrev Inv (c : Dev nD) (arg1 arg2 arg3 arg4 arg5 arg6 : Memref sig .tc .vmem S512x16 .f32)
    (X : BufTy.Contents (Elt F) arg1.view.ty) (G2 : BufTy.Contents (Elt F) arg2.view.ty)
    (G3 : BufTy.Contents (Elt F) arg3.view.ty) (G4 : BufTy.Contents (Elt F) arg4.view.ty)
    (G5 : BufTy.Contents (Elt F) arg5.view.ty) (G6 : BufTy.Contents (Elt F) arg6.view.ty) (k : ℕ) (s : Carry F) : sProp 𝕄 :=
  iprop((arg1.view.loc (c : Thread nD τ) ↦[arg1.view.set]{fullShare} X)
    ∗ (∃ f, (arg2.view.loc (c : Thread nD τ) ↦[arg2.view.set]{fullShare} f)
        ∗ ⌜f = arg2.view.writes (Elt F) G2 (rows (fireRow (arg1.view.read (Elt F) X)) k)⌝)
    ∗ (∃ f, (arg3.view.loc (c : Thread nD τ) ↦[arg3.view.set]{fullShare} f)
        ∗ ⌜f = arg3.view.writes (Elt F) G3 (rows (curRow (arg1.view.read (Elt F) X)) k)⌝)
    ∗ (∃ f, (arg4.view.loc (c : Thread nD τ) ↦[arg4.view.set]{fullShare} f)
        ∗ ⌜f = arg4.view.writes (Elt F) G4 (rows (remRow (arg1.view.read (Elt F) X)) k)⌝)
    ∗ (∃ f, (arg5.view.loc (c : Thread nD τ) ↦[arg5.view.set]{fullShare} f)
        ∗ ⌜f = arg5.view.writes (Elt F) G5 (rows (segRow (arg1.view.read (Elt F) X)) k)⌝)
    ∗ (∃ f, (arg6.view.loc (c : Thread nD τ) ↦[arg6.view.set]{fullShare} f)
        ∗ ⌜f = arg6.view.writes (Elt F) G6 (rows (nextSegRow (arg1.view.read (Elt F) X)) k)⌝)
    ∗ ⌜s = carry (arg1.view.read (Elt F) X) k⌝)

set_option warn.classDefReducibility false in
/-- The loop by its invariant: a trip takes it to the next. -/
@[sl_loop] def scanLoop (𝒱 : Variants) (c : Dev nD) (bd : Option 𝒱.V) (E : Set ℕ) (i : grid1.Coords)
    (arg1 : Memref sig .tc .vmem S512x16 .f32) (harg1 : arg1.IsWhole) (arg2 : Memref sig .tc .vmem S512x16 .f32) (harg2 : arg2.IsWhole)
    (arg3 : Memref sig .tc .vmem S512x16 .f32) (harg3 : arg3.IsWhole) (arg4 : Memref sig .tc .vmem S512x16 .f32) (harg4 : arg4.IsWhole)
    (arg5 : Memref sig .tc .vmem S512x16 .f32) (harg5 : arg5.IsWhole) (arg6 : Memref sig .tc .vmem S512x16 .f32) (harg6 : arg6.IsWhole)
    (X : BufTy.Contents (Elt F) arg1.view.ty) (G2 : BufTy.Contents (Elt F) arg2.view.ty)
    (G3 : BufTy.Contents (Elt F) arg3.view.ty) (G4 : BufTy.Contents (Elt F) arg4.view.ty)
    (G5 : BufTy.Contents (Elt F) arg5.view.ty) (G6 : BufTy.Contents (Elt F) arg6.view.ty) :
    Idealize.ShloMosaic.LoopInv (M := 𝕄) Idealize.ShloMosaic.frame (wpE (defs₀ (F := F)) 𝒱 (c : Thread nD τ) bd) E
      k1_t1_loop.lb k1_t1_loop.ub k1_t1_loop.st k1_t1_ok (k1_pay1 (F := F), k1_pay1 (F := F))
      (k1_t1_body (F := F) i arg1 harg1 arg2 harg2 arg3 harg3 arg4 harg4 arg5 harg5 arg6 harg6) where
  inv := Inv (F := F) c arg1 arg2 arg3 arg4 arg5 arg6 X G2 G3 G4 G5 G6
  step k s := by
    iintro ⟨H1, ⟨%f2, H2, %h2⟩, ⟨%f3, H3, %h3⟩, ⟨%f4, H4, %h4⟩, ⟨%f5, H5, %h5⟩, ⟨%f6, H6, %h6⟩, %hs⟩
    subst hs
    iapply (wp_wand_r Idealize.ShloMosaic.frame (wpE (defs₀ (F := F)) 𝒱 (c : Thread nD τ) bd) E)
    isplitl [H1 H2 H3 H4 H5 H6]
    · iapply (trip (F := F) 𝒱 c bd E i arg1 harg1 arg2 harg2 arg3 harg3 arg4 harg4 arg5 harg5 arg6 harg6 k _ X f2 f3 f4 f5 f6)
      isplitl [H1]; · iexact H1
      isplitl [H2]; · iexact H2
      isplitl [H3]; · iexact H3
      isplitl [H4]; · iexact H4
      isplitl [H5]; · iexact H5
      iexact H6
    · iintro %y ⟨%hy, H1, H2, H3, H4, H5, H6⟩
      isplitl [H1]; · iexact H1
      simp only [rows_succ, carry_succ]
      isplitl [H2]
      · iexists _; isplitl [H2]; · iexact H2
        ipureintro; rw [h2, ← View.writes_append]; rfl
      isplitl [H3]
      · iexists _; isplitl [H3]; · iexact H3
        ipureintro; rw [h3, ← View.writes_append]; rfl
      isplitl [H4]
      · iexists _; isplitl [H4]; · iexact H4
        ipureintro; rw [h4, ← View.writes_append]; rfl
      isplitl [H5]
      · iexists _; isplitl [H5]; · iexact H5
        ipureintro; rw [h5, ← View.writes_append]; rfl
      isplitl [H6]
      · iexists _; isplitl [H6]; · iexact H6
        ipureintro; rw [h6, ← View.writes_append]; rfl
      ipureintro; exact hy

/-! ## The rows, read back -/

/-- The trips are the rows. -/
theorem trips_eq : k1_t1_loop.trips = 512 := by decide

/-- The trip that writes a row. -/
def tripOf (t : Fin 512) : Fin k1_t1_loop.trips := t.cast trips_eq.symm

/-- The index of a one-row block at a lane. -/
abbrev lane (b : Fin 16) : S1x16.Idx := ix2 (0 : Fin 1) b

/-- The array whose rows are `g`. -/
def ofRows (g : Fin k1_t1_loop.trips → Vec F S1x16 .f32) : Vec F S512x16 .f32 :=
  fun y => g (tripOf (y 0)) (lane (y 1))

theorem rowRect_emb0 (k : Fin k1_t1_loop.trips) (x : (rowRect k).shape.Idx) :
    ((rowRect k).emb x 0 : ℕ) = k.val + (x 0 : ℕ) := by
  have h := ValueKit.rect_emb_unit_val (s := S512x16) (k1_off1 k) S1x16.size (k1_off1_inb k) x 0
  rw [congrFun (k1_off1_eq k) 0] at h
  exact h

theorem rowRect_emb1 (k : Fin k1_t1_loop.trips) (x : (rowRect k).shape.Idx) :
    ((rowRect k).emb x 1 : ℕ) = (x 1 : ℕ) := by
  have h := ValueKit.rect_emb_unit_val (s := S512x16) (k1_off1 k) S1x16.size (k1_off1_inb k) x 1
  rw [congrFun (k1_off1_eq k) 1] at h
  exact h.trans (Nat.zero_add _)

/-- Two indices of a matrix agree when both coordinates do. -/
theorem idx_ext {n m : ℕ} {x y : (⟨2, ![n, m]⟩ : Shape).Idx} (h0 : (x 0 : ℕ) = y 0) (h1 : (x 1 : ℕ) = y 1) : x = y :=
  funext fun a => Fin.ext (match a with | ⟨0, _⟩ => h0 | ⟨1, _⟩ => h1)

theorem rows_agree (g : Fin k1_t1_loop.trips → Vec F S1x16 .f32) :
    ∀ k, ∀ p ∈ rows g k, ∀ x : p.1.shape.Idx, p.2 x = ofRows g (p.1.emb x)
  | 0, p, hp => by simp [rows] at hp
  | k + 1, p, hp => by
    rw [rows] at hp
    split at hp
    · rcases List.mem_cons.mp hp with rfl | hp
      · rename_i h
        intro x
        have e0 : ((rowRect ⟨k, h⟩).emb x 0 : ℕ) = k := by
          rw [rowRect_emb0]
          have : (x 0 : ℕ) < 1 := (x 0).isLt
          show k + (x 0 : ℕ) = k
          omega
        have e1 : ((rowRect ⟨k, h⟩).emb x 1 : ℕ) = x 1 := rowRect_emb1 _ x
        show g ⟨k, h⟩ x = g (tripOf ((rowRect ⟨k, h⟩).emb x 0)) (lane ((rowRect ⟨k, h⟩).emb x 1))
        have t0 : tripOf ((rowRect ⟨k, h⟩).emb x 0) = ⟨k, h⟩ := Fin.ext e0
        have t1 : lane ((rowRect ⟨k, h⟩).emb x 1) = x := by
          refine idx_ext ?_ e1
          have : (x 0 : ℕ) < 1 := (x 0).isLt
          show 0 = (x 0 : ℕ)
          omega
        rw [t0, t1]
      · exact rows_agree g k p hp
    · exact rows_agree g k p hp

theorem rows_mem (g : Fin k1_t1_loop.trips → Vec F S1x16 .f32) (j : Fin k1_t1_loop.trips) :
    ∀ k, j.val < k → (⟨rowRect j, g j⟩ : View.Piece (Elt F) S512x16 .f32) ∈ rows g k
  | 0, h => absurd h (Nat.not_lt_zero _)
  | k + 1, h => by
    rw [rows]
    by_cases e : j.val = k
    · subst e; rw [dif_pos j.isLt]; exact List.mem_cons_self
    · have := rows_mem g j k (by omega)
      split
      · exact List.mem_cons_of_mem _ this
      · exact this

/-- The rows cover the array. -/
theorem rows_cover (g : Fin k1_t1_loop.trips → Vec F S1x16 .f32) (y : S512x16.Idx) :
    ∃ p ∈ rows g k1_t1_loop.trips, y ∈ p.1.set := by
  refine ⟨_, rows_mem g (tripOf (y 0)) _ (tripOf (y 0)).isLt, ?_⟩
  have : (rowRect (tripOf (y 0))).emb (lane (y 1)) = y := by
    refine idx_ext ?_ ?_
    · rw [rowRect_emb0]; exact Nat.add_zero _
    · rw [rowRect_emb1]; rfl
  have h := LoadRect.idx_mem (rowRect (tripOf (y 0))).toLoadRect (lane (y 1))
  exact (congrArg (· ∈ (rowRect (tripOf (y 0))).set) this).mp h

/-- All the rows stored leave the array of the rows. -/
theorem canon_rows (g : Fin k1_t1_loop.trips → Vec F S1x16 .f32) :
    View.canon (rows g k1_t1_loop.trips) = ofRows g :=
  funext fun y => View.canon_apply_of_pieces (ofRows g) _ (rows_agree g _) y (rows_cover g y)

theorem read_rows (arg : Memref sig .tc .vmem S512x16 .f32) (f : BufTy.Contents (Elt F) arg.view.ty)
    (g : Fin k1_t1_loop.trips → Vec F S1x16 .f32) :
    arg.view.read (Elt F) (arg.view.writes (Elt F) f (rows g k1_t1_loop.trips)) = ofRows g :=
  (View.read_writes_eq_canon _ f _ (rows_cover g)).trans (canon_rows g)

theorem offZero : (![0, 0] : Fin 2 → Nat) = fun _ => 0 :=
  funext fun a => match a with | ⟨0, _⟩ => rfl | ⟨1, _⟩ => rfl

/-- A load of the whole array after all the rows reads the array of the rows. -/
theorem readCov_rows (arg : Memref sig .tc .vmem S512x16 .f32) (g : Fin k1_t1_loop.trips → Vec F S1x16 .f32)
    (inb : ∀ a, (![0, 0] : Fin 2 → Nat) a + S512x16.size a ≤ S512x16.size a) :
    arg.view.readCov (Val := Elt F) (rows g k1_t1_loop.trips) (Rect.unit (s := S512x16) ![0, 0] S512x16.size inb).toLoadRect = ofRows g := by
  rw [View.readCov_eq_canon_ld _ _ _ (rows_cover g), canon_rows, View.ld_unit_zero offZero]

/-- A store of the whole array leaves its payload. -/
theorem read_whole (arg : Memref sig .tc .vmem S512x16 .f32) (f : BufTy.Contents (Elt F) arg.view.ty)
    (inb : ∀ a, (![0, 0] : Fin 2 → Nat) a + S512x16.size a ≤ S512x16.size a) (w : Vec F S512x16 .f32)
    (L : List (View.Piece (Elt F) S512x16 .f32)) :
    arg.view.read (Elt F) (arg.view.writes (Elt F) f (⟨Rect.unit (s := S512x16) ![0, 0] S512x16.size inb, w⟩ :: L)) = w := by
  refine (View.read_writes_eq_canon _ f _ fun y => ⟨_, List.mem_cons_self, ?_⟩).trans (View.canon_cons_unit_zero (S := S512x16) offZero inb w L)
  exact (LoadRect.mem_set _).mpr fun a => ⟨y a, (y a).isLt, by
    show (y a : ℕ) = (![0, 0] : Fin 2 → Nat) a + 1 * y a
    rw [congrFun offZero a, Nat.zero_add, Nat.one_mul]⟩

/-! ## What the body leaves in each result -/

/-- The first result: every row's accumulator with the input added. -/
def fires (X : Vec F S512x16 .f32) : Vec F S512x16 .f32 := ofRows (fireRow X)
/-- The number of segments finished before each row. -/
def seg (X : Vec F S512x16 .f32) : Vec F S512x16 .f32 := ofRows (segRow X)
/-- The number of segments finished with each row. -/
def nextSeg (X : Vec F S512x16 .f32) : Vec F S512x16 .f32 := ofRows (nextSegRow X)
/-- The number of segments finished in all. -/
def total (X : Vec F S512x16 .f32) : FVec F S1x16 .f32 := (carry X k1_t1_loop.trips).2
/-- The weights given to the segments being filled, of the finished segments. -/
def cur (X : Vec F S512x16 .f32) : Vec F S512x16 .f32 := k1_pay9 (total X) (seg X) (ofRows (curRow X))
/-- The weights left for the next segments, of the finished segments. -/
def rem (X : Vec F S512x16 .f32) : Vec F S512x16 .f32 := k1_pay10 (total X) (nextSeg X) (ofRows (remRow X))

set_option maxHeartbeats 1000000 in
/-- The second kernel's body on whole buffers: the input in place, each result at its array. -/
theorem sound_kernel1 (c : Dev nD) (E : Set ℕ) (i : grid1.Coords)
    (arg1 : Memref sig .tc .vmem S512x16 .f32) (harg1 : arg1.IsWhole) (arg2 : Memref sig .tc .vmem S512x16 .f32) (harg2 : arg2.IsWhole)
    (arg3 : Memref sig .tc .vmem S512x16 .f32) (harg3 : arg3.IsWhole) (arg4 : Memref sig .tc .vmem S512x16 .f32) (harg4 : arg4.IsWhole)
    (arg5 : Memref sig .tc .vmem S512x16 .f32) (harg5 : arg5.IsWhole) (arg6 : Memref sig .tc .vmem S512x16 .f32) (harg6 : arg6.IsWhole)
    (X : Vec F S512x16 .f32) (K : PUnit → sProp 𝕄) :
    iprop(owns (c : Thread nD τ) arg1 fullShare X ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare X ∗ owns (c : Thread nD τ) arg2 fullShare (fires X)
            ∗ owns (c : Thread nD τ) arg3 fullShare (cur X) ∗ owns (c : Thread nD τ) arg4 fullShare (rem X)
            ∗ owns (c : Thread nD τ) arg5 fullShare (seg X) ∗ owns (c : Thread nD τ) arg6 fullShare (nextSeg X)) -∗ K ⟨⟩))
      ⊢ wp frame (wpE (defs₀ (F := F)) Variants.none c none) E
          (cc1__scan_kernel i arg1 harg1 arg2 harg2 arg3 harg3 arg4 harg4 arg5 harg5 arg6 harg6) K := by
  simp only [cc1__scan_kernel_eq_skeleton]; unfold cc1__scan_kernel_skel
  unfold owns
  iintro ⟨⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf1
  sl_exec
  sl_step
  iapply Hk
  isplitl [H1]
  · iexists f1; isplitr; · ipureintro; rfl
    iexact H1
  isplitl [H2]
  · iexists _; isplitr
    swap; · iexact H2
    ipureintro
    exact read_rows arg2 f2 _
  isplitl [H3]
  · iexists _; isplitr
    swap; · iexact H3
    ipureintro
    rw [show sound_kernel1.sl.v3 c arg1 arg5 f1 = seg (arg1.view.read (Elt F) f1) from readCov_rows arg5 _ _,
      show sound_kernel1.sl.v7 c arg1 arg3 f1 = ofRows (curRow (arg1.view.read (Elt F) f1)) from readCov_rows arg3 _ _]
    exact read_whole arg3 f3 _ _ _
  isplitl [H4]
  · iexists _; isplitr
    swap; · iexact H4
    ipureintro
    rw [show sound_kernel1.sl.v12 c arg1 arg6 f1 = nextSeg (arg1.view.read (Elt F) f1) from readCov_rows arg6 _ _,
      show sound_kernel1.sl.v16 c arg1 arg4 f1 = ofRows (remRow (arg1.view.read (Elt F) f1)) from readCov_rows arg4 _ _]
    exact read_whole arg4 f4 _ _ _
  isplitl [H5]
  · iexists _; isplitr
    swap; · iexact H5
    ipureintro
    exact read_rows arg5 f5 _
  iexists _; isplitr
  swap; · iexact H6
  ipureintro
  exact read_rows arg6 f6 _

end Cert.KernelIdeal.Run

end
-- ==== Proof.Blocks.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Scan
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

/-! The three calls: each body's triple at its blocks, and its obligation to the pipeline that runs it. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The convolution and its projection -/

/-- A window's block at a point, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x520x512 := Rect.unit (s := S1x520x512) ![0, 0, 0] S1x520x512.size inb_S1x520x512_S1x520x512_0_0_0
abbrev r0_1 : Rect S3x512x512 := Rect.unit (s := S3x512x512) ![0, 0, 0] S1x512x512.size inb_S3x512x512_S1x512x512_0_0_0
abbrev r0_2 : Rect S3x512x512 := Rect.unit (s := S3x512x512) ![1, 0, 0] S1x512x512.size inb_S3x512x512_S1x512x512_1_0_0
abbrev r0_3 : Rect S3x512x512 := Rect.unit (s := S3x512x512) ![2, 0, 0] S1x512x512.size inb_S3x512x512_S1x512x512_2_0_0
abbrev r0_4 : Rect S1x512 := Rect.unit (s := S1x512) ![0, 0] S1x512.size inb_S1x512_S1x512_0_0
abbrev r0_5 : Rect S512x8 := Rect.unit (s := S512x8) ![0, 0] S512x8.size inb_S512x8_S512x8_0_0
abbrev r0_6 : Rect S1x8 := Rect.unit (s := S1x8) ![0, 0] S1x8.size inb_S1x8_S1x8_0_0
abbrev r0_7 : Rect S1x512x8 := Rect.unit (s := S1x512x8) ![0, 0, 0] S1x512x8.size inb_S1x512x8_S1x512x8_0_0_0
abbrev r0_8 : Rect S1x1x128 := Rect.unit (s := S1x1x128) ![0, 0, 0] S1x1x128.size inb_S1x1x128_S1x1x128_0_0_0

/-- What the body leaves in this output window, from the input blocks. -/
def out0_5 (x0 : Vec F S1x520x512 .f32) (x1 : Vec F S3x512x512 .f32) (x2 : Vec F S1x512 .f32) (x3 : Vec F S512x8 .f32) (x4 : Vec F S1x8 .f32) : Vec F S1x512x8 .f32 :=
  View.canon [⟨r0_7, k0_pay3 (View.ld x0 r0_0) (View.ld x1 r0_1) (View.ld x1 r0_2) (View.ld x1 r0_3) (View.ld x2 r0_4) (View.ld x3 r0_5) (View.ld x4 r0_6)⟩]

theorem cover0_5 (p0 : Vec F S1x512x8 .f32) (y : S1x512x8.Idx) :
    ∃ pc ∈ ([⟨r0_7, p0⟩] : List (View.Piece (Elt F) S1x512x8 .f32)), y ∈ pc.1.set :=
  View.cover_of_tiled [⟨r0_7, p0⟩] S1x512x8.size (by rfl) y

/-- What the body leaves in this output window, from the input blocks. -/
def out0_6 (x0 : Vec F S1x520x512 .f32) (x1 : Vec F S3x512x512 .f32) (x2 : Vec F S1x512 .f32) (x3 : Vec F S512x8 .f32) (x4 : Vec F S1x8 .f32) : Vec F S1x1x128 .f32 :=
  View.canon [⟨r0_8, k0_pay1 (k0_pay2 (View.ld x0 r0_0) (View.ld x1 r0_1) (View.ld x1 r0_2) (View.ld x1 r0_3) (View.ld x2 r0_4) (View.ld x3 r0_5) (View.ld x4 r0_6))⟩]

theorem cover0_6 (p0 : Vec F S1x1x128 .f32) (y : S1x1x128.Idx) :
    ∃ pc ∈ ([⟨r0_8, p0⟩] : List (View.Piece (Elt F) S1x1x128 .f32)), y ∈ pc.1.set :=
  View.cover_of_tiled [⟨r0_8, p0⟩] S1x1x128.size (by rfl) y

set_option maxHeartbeats 1000000 in
/-- The body on whole buffers: the inputs in place, each output at its contents. -/
theorem sound_kernel0 (c : Dev nD) (E : Set ℕ) (i : grid0.Coords) (arg1 : Memref sig .tc .vmem S1x520x512 .f32) (harg1 : arg1.IsWhole) (arg2 : Memref sig .tc .vmem S3x512x512 .f32) (harg2 : arg2.IsWhole) (arg3 : Memref sig .tc .vmem S1x512 .f32) (harg3 : arg3.IsWhole) (arg4 : Memref sig .tc .vmem S512x8 .f32) (harg4 : arg4.IsWhole) (arg5 : Memref sig .tc .vmem S1x8 .f32) (harg5 : arg5.IsWhole) (arg6 : Memref sig .tc .vmem S1x512x8 .f32) (harg6 : arg6.IsWhole) (arg7 : Memref sig .tc .vmem S1x1x128 .f32) (harg7 : arg7.IsWhole)
    (x0 : Vec F S1x520x512 .f32) (x1 : Vec F S3x512x512 .f32) (x2 : Vec F S1x512 .f32) (x3 : Vec F S512x8 .f32) (x4 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__conv_proj_kernel i arg1 harg1 arg2 harg2 arg3 harg3 arg4 harg4 arg5 harg5 arg6 harg6 arg7 harg7) K := by
  simp only [cc0__conv_proj_kernel_eq_skeleton]; unfold cc0__conv_proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data: the arrays as the call finds them, each output at what the body leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns at a point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The scan -/

/-- A window's block at a point, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S512x16 .f32 := win1_0.stage (cfg1.slots t 0)
abbrev ms1_1 (t : Fin cfg1.N) : Memref sig .tc .vmem S512x16 .f32 := win1_1.stage (cfg1.slots t 1)
abbrev ms1_2 (t : Fin cfg1.N) : Memref sig .tc .vmem S512x16 .f32 := win1_2.stage (cfg1.slots t 2)
abbrev ms1_3 (t : Fin cfg1.N) : Memref sig .tc .vmem S512x16 .f32 := win1_3.stage (cfg1.slots t 3)
abbrev ms1_4 (t : Fin cfg1.N) : Memref sig .tc .vmem S512x16 .f32 := win1_4.stage (cfg1.slots t 4)
abbrev ms1_5 (t : Fin cfg1.N) : Memref sig .tc .vmem S512x16 .f32 := win1_5.stage (cfg1.slots t 5)

/-- The proof data: the arrays as the call finds them, each output at what the body leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fires (iblk1 V c 0 t)
    | ⟨2, _⟩ => cur (iblk1 V c 0 t)
    | ⟨3, _⟩ => rem (iblk1 V c 0 t)
    | ⟨4, _⟩ => seg (iblk1 V c 0 t)
    | ⟨5, _⟩ => nextSeg (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = fires (iblk1 V c 0 t) := by dsimp only [dat1]
theorem after1_2 (c : Dev nD) (t : Fin cfg1.N) : (dat1 V c).after 2 t = cur (iblk1 V c 0 t) := by dsimp only [dat1]
theorem after1_3 (c : Dev nD) (t : Fin cfg1.N) : (dat1 V c).after 3 t = rem (iblk1 V c 0 t) := by dsimp only [dat1]
theorem after1_4 (c : Dev nD) (t : Fin cfg1.N) : (dat1 V c).after 4 t = seg (iblk1 V c 0 t) := by dsimp only [dat1]
theorem after1_5 (c : Dev nD) (t : Fin cfg1.N) : (dat1 V c).after 5 t = nextSeg (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at a point. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What the body returns at a point. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## The weighted sums over the frames -/

/-- A window's block at a point, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x1x512 := Rect.unit (s := S1x1x512) ![0, 0, 0] S1x1x512.size inb_S1x1x512_S1x1x512_0_0_0
abbrev r2_1 : Rect S1x512x512 := Rect.unit (s := S1x512x512) ![0, 0, 0] S1x512x512.size inb_S1x512x512_S1x512x512_0_0_0

/-- What the body leaves in this output window, from the input blocks. -/
def out2_5 (x0 : Vec F S1x512x512 .f32) (x1 : Vec F S1x1x512 .f32) (x2 : Vec F S1x1x512 .f32) (x3 : Vec F S1x1x512 .f32) (x4 : Vec F S1x1x512 .f32) : Vec F S1x512x512 .f32 :=
  View.canon [⟨r2_1, k2_pay1 (View.ld x3 r2_0) (View.ld x1 r2_0) (View.ld x4 r2_0) (View.ld x2 r2_0) (View.ld x0 r2_1)⟩]

theorem cover2_5 (p0 : Vec F S1x512x512 .f32) (y : S1x512x512.Idx) :
    ∃ pc ∈ ([⟨r2_1, p0⟩] : List (View.Piece (Elt F) S1x512x512 .f32)), y ∈ pc.1.set :=
  View.cover_of_tiled [⟨r2_1, p0⟩] S1x512x512.size (by rfl) y

set_option maxHeartbeats 1000000 in
/-- The body on whole buffers: the inputs in place, each output at its contents. -/
theorem sound_kernel2 (c : Dev nD) (E : Set ℕ) (i : grid2.Coords) (arg1 : Memref sig .tc .vmem S1x512x512 .f32) (harg1 : arg1.IsWhole) (arg2 : Memref sig .tc .vmem S1x1x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x512x512 .f32) (harg6 : arg6.IsWhole)
    (x0 : Vec F S1x512x512 .f32) (x1 : Vec F S1x1x512 .f32) (x2 : Vec F S1x1x512 .f32) (x3 : Vec F S1x1x512 .f32) (x4 : Vec F S1x1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__seg_gather_kernel i arg1 harg1 arg2 harg2 arg3 harg3 arg4 harg4 arg5 harg5 arg6 harg6) K := by
  simp only [cc2__seg_gather_kernel_eq_skeleton]; unfold cc2__seg_gather_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data: the arrays as the call finds them, each output at what the body leaves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at a point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns at a point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Launch.lean ====
module

public import proofs.«01_k».proof.Proof.Blocks

@[expose] public section

set_option maxRecDepth 16384

/-! The whole run: the array contents at every boundary between host operations and calls, from the launch to the end. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9]

theorem hostOps0_fresh : (hostOps0 : List (HloOp τ sig (Elt F))).Forall fun op => op.fresh = ∅ := by
  simp only [List.Forall]; repeat' constructor
abbrev hostOps0_W : List (Ref sig .tc) := [main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v1, main_v2, main_v3, main_v4, main_v5, main_cst, main_v6, main_v7, main_v8, main_v9, main_v10, main_v11, main_v12, main_v13, main_v14, main_cst_0, main_v15, main_v16, main_v17]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v19, main_v20, main_v21, main_v22, main_v23, main_v24, main_v25]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v27, main_v28, main_v29, main_v30, main_v31, main_v32, main_v33, main_v34, main_v35]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev adm : (p : Fin 3) → (pcfgs (F := F) p).Adm := fun p => (cfgs p).toPCfg_adm
/-- Every call's proof data, at the contents it is entered with. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- What rides along: the generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)
set_option backward.isDefEq.respectTransparency.types false in
/-- A call among the segments: entered and left at the boundary contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- A call among the segments: entered and left at the boundary contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- A call among the segments: entered and left at the boundary contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- The program is the run of its segments. -/
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends, with every array at the last boundary's contents and every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- What one array holds at the end. -/
theorem read {μ : (ℓ : Loc nD τ sig) → Buf (Elt F) ℓ} {c : Dev nD} (h : ∀ b ∈ Pipeline.ucRefs τ sig, μ (((c : Thread nD τ)).1, b) = W8 m ρ c b)
    (b : Ref sig .tc) (hb : ¬ (Proc.devRef .tc b : DevRef τ sig).isScoped) :
    μ ((c.tc : Thread nD τ).loc b) = W8 m ρ c (Proc.devRef .tc b) := h _ (mem_uc b hb)

/-- An argument array ends as it was launched. -/
theorem read_arg {μ : (ℓ : Loc nD τ sig) → Buf (Elt F) ℓ} {c : Dev nD} (h : ∀ b ∈ Pipeline.ucRefs τ sig, μ (((c : Thread nD τ)).1, b) = W8 m ρ c b)
    (b : Ref sig .tc) (hb : ¬ (Proc.devRef .tc b : DevRef τ sig).isScoped) (ha : b ∈ argRefs) :
    μ ((c.tc : Thread nD τ).loc b) = m ((c.tc : Thread nD τ).loc b) := (read m ρ h b hb).trans (W8_args m ρ c b ha)

/-- Every argument array ends as it was launched. -/
theorem args {μ : (ℓ : Loc nD τ sig) → Buf (Elt F) ℓ} {c : Dev nD} (h : ∀ b ∈ Pipeline.ucRefs τ sig, μ (((c : Thread nD τ)).1, b) = W8 m ρ c b) :
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9) := by
  refine ⟨?_, ?_, ?_, ?_, ?_, ?_, ?_, ?_, ?_, ?_⟩ <;> exact read_arg m ρ h _ (by decide) (by decide)

/-- Every run ends with the arguments as launched and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
    ∧ r.2.sem = fun _ => 0) :=
  (θ_run defs _ _).mono (fun _ h => ⟨fun c => args m ρ (h.1 c), h.2⟩) (ends m ρ)

end Cert.KernelIdeal.Run

end
-- ==== Proof.Reference.lean ====
/-
  The reference's run: its arguments end as they were launched, its counters at zero, and its results
  are read off the contents its operations leave.
-/
module

public import proofs.«01_k».proof.Proof.Gen.ReferenceIdeal.Run
public import Idealize.ShloMosaic.Lib.Quiescent

@[expose] public section

set_option maxRecDepth 65536

noncomputable section

namespace Cert.ReferenceIdeal.Value

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-- The program's arguments. -/
abbrev argRefs : List (Ref sig .tc) :=
  [main_arg0, main_arg1, main_arg2, main_arg3, main_arg4, main_arg5, main_arg6, main_arg7, main_arg8, main_arg9]

/-- The stretches before the loop write no argument. -/
theorem preI_args (V : Valuation τ sig (Elt F)) (b : Ref sig .tc) (hb : b ∈ argRefs) :
    afterL preI V (Proc.devRef .tc b) = V (Proc.devRef .tc b) := by
  simp only [afterL_cons, afterL_nil]
  rw [after_of_writes_sub hostOps0_8 _ hostOps0_8_writes ((by decide +kernel : ∀ b ∈ argRefs, b ∉ hostOps0_8_W) b hb),
    after_of_writes_sub hostOps0_7 _ hostOps0_7_writes ((by decide +kernel : ∀ b ∈ argRefs, b ∉ hostOps0_7_W) b hb),
    after_of_writes_sub hostOps0_6 _ hostOps0_6_writes ((by decide +kernel : ∀ b ∈ argRefs, b ∉ hostOps0_6_W) b hb),
    after_of_writes_sub hostOps0_5 _ hostOps0_5_writes ((by decide +kernel : ∀ b ∈ argRefs, b ∉ hostOps0_5_W) b hb),
    after_of_writes_sub hostOps0_4 _ hostOps0_4_writes ((by decide +kernel : ∀ b ∈ argRefs, b ∉ hostOps0_4_W) b hb),
    after_of_writes_sub hostOps0_3 _ hostOps0_3_writes ((by decide +kernel : ∀ b ∈ argRefs, b ∉ hostOps0_3_W) b hb),
    after_of_writes_sub hostOps0_2 _ hostOps0_2_writes ((by decide +kernel : ∀ b ∈ argRefs, b ∉ hostOps0_2_W) b hb),
    after_of_writes_sub hostOps0_1 _ hostOps0_1_writes ((by decide +kernel : ∀ b ∈ argRefs, b ∉ hostOps0_1_W) b hb),
    after_of_writes_sub hostOps0 _ (W := [main_c]) hostOps0_writes ((by decide +kernel : ∀ b ∈ argRefs, b ∉ [main_c]) b hb)]

/-- What the loop leaves alone: the arguments, and the results made before it. -/
abbrev heldRefs : List (Ref sig .tc) := argRefs ++ [main_v51, main_v70, main_v71]

/-- One trip leaves them alone. -/
theorem bodyI_held (V : Valuation τ sig (Elt F)) (b : Ref sig .tc) (hb : b ∈ heldRefs) :
    afterL bodyI V (Proc.devRef .tc b) = V (Proc.devRef .tc b) := by
  simp only [afterL_cons, afterL_nil]
  rw [after_of_writes_sub while0Ops0_9 _ while0Ops0_9_writes ((by decide +kernel : ∀ b ∈ heldRefs, b ∉ while0Ops0_9_W) b hb),
    after_of_writes_sub while0Ops0_8 _ while0Ops0_8_writes ((by decide +kernel : ∀ b ∈ heldRefs, b ∉ while0Ops0_8_W) b hb),
    after_of_writes_sub while0Ops0_7 _ while0Ops0_7_writes ((by decide +kernel : ∀ b ∈ heldRefs, b ∉ while0Ops0_7_W) b hb),
    after_of_writes_sub while0Ops0_6 _ while0Ops0_6_writes ((by decide +kernel : ∀ b ∈ heldRefs, b ∉ while0Ops0_6_W) b hb),
    after_of_writes_sub while0Ops0_5 _ while0Ops0_5_writes ((by decide +kernel : ∀ b ∈ heldRefs, b ∉ while0Ops0_5_W) b hb),
    after_of_writes_sub while0Ops0_4 _ while0Ops0_4_writes ((by decide +kernel : ∀ b ∈ heldRefs, b ∉ while0Ops0_4_W) b hb),
    after_of_writes_sub while0Ops0_3 _ while0Ops0_3_writes ((by decide +kernel : ∀ b ∈ heldRefs, b ∉ while0Ops0_3_W) b hb),
    after_of_writes_sub while0Ops0_2 _ while0Ops0_2_writes ((by decide +kernel : ∀ b ∈ heldRefs, b ∉ while0Ops0_2_W) b hb),
    after_of_writes_sub while0Ops0_1 _ while0Ops0_1_writes ((by decide +kernel : ∀ b ∈ heldRefs, b ∉ while0Ops0_1_W) b hb),
    after_of_writes_sub while0Ops0 _ while0Ops0_writes ((by decide +kernel : ∀ b ∈ heldRefs, b ∉ while0Ops0_W) b hb)]

/-- The stretches after the loop leave them alone. -/
theorem postI_held (V : Valuation τ sig (Elt F)) (b : Ref sig .tc) (hb : b ∈ heldRefs) :
    afterL postI V (Proc.devRef .tc b) = V (Proc.devRef .tc b) := by
  simp only [afterL_cons, afterL_nil]
  rw [after_of_writes_sub hostOps0_12 _ hostOps0_12_writes ((by decide +kernel : ∀ b ∈ heldRefs, b ∉ hostOps0_12_W) b hb),
    after_of_writes_sub hostOps0_11 _ hostOps0_11_writes ((by decide +kernel : ∀ b ∈ heldRefs, b ∉ hostOps0_11_W) b hb),
    after_of_writes_sub hostOps0_10 _ hostOps0_10_writes ((by decide +kernel : ∀ b ∈ heldRefs, b ∉ hostOps0_10_W) b hb),
    after_of_writes_sub hostOps0_9 _ hostOps0_9_writes ((by decide +kernel : ∀ b ∈ heldRefs, b ∉ hostOps0_9_W) b hb)]

/-- The loop's test leaves them alone. -/
theorem cond_held (V : Valuation τ sig (Elt F)) (b : Ref sig .tc) (hb : b ∈ heldRefs) :
    after condOps V (Proc.devRef .tc b) = V (Proc.devRef .tc b) :=
  after_of_writes_sub condOps _ condOps_writes ((by decide +kernel : ∀ b ∈ heldRefs, b ∉ condOps_W) b hb)

variable (m : (ℓ : Loc nD τ sig) → Buf (Elt F) ℓ) (ρ : Dev nD → PrngReg)

/-- The loop leaves them alone. -/
theorem atK_held (c : Dev nD) (b : Ref sig .tc) (hb : b ∈ heldRefs) :
    ∀ k, atK m k c (Proc.devRef .tc b) = entryContents preI m c (Proc.devRef .tc b)
  | 0 => rfl
  | k + 1 => by rw [atK, atTrip_succ, bodyI_held _ b hb, cond_held _ b hb]; exact atK_held c b hb k

/-- They end as they were when the loop began. -/
theorem final_held (c : Dev nD) (b : Ref sig .tc) (hb : b ∈ heldRefs) :
    finalContents condOps preI bodyI postI 512 m c (Proc.devRef .tc b) = entryContents preI m c (Proc.devRef .tc b) := by
  rw [finalContents, postI_held _ b hb, cond_held _ b hb]; exact atK_held m c b hb 512

/-- An argument ends as it was launched. -/
theorem final_arg (c : Dev nD) (b : Ref sig .tc) (hb : b ∈ argRefs) :
    finalContents condOps preI bodyI postI 512 m c (Proc.devRef .tc b) = m ((c.tc : Thread nD τ).loc b) :=
  (final_held m c b (List.mem_append_left _ hb)).trans (preI_args _ b hb)

/-- Every argument ends as it was launched. -/
theorem args {μ : (ℓ : Loc nD τ sig) → Buf (Elt F) ℓ} {c : Dev nD}
    (h : ∀ b : Ref sig .tc, (Proc.devRef .tc b : DevRef τ sig).isScoped = false →
      μ ((c.tc : Thread nD τ).loc b) = finalContents condOps preI bodyI postI 512 m c (Proc.devRef .tc b)) :
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9) := by
  refine ⟨?_, ?_, ?_, ?_, ?_, ?_, ?_, ?_, ?_, ?_⟩ <;> exact (h _ (by decide)).trans (final_arg m c _ (by decide))

/-- Every run ends with the arguments as launched and every counter at zero. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
    ∧ r.2.sem = fun _ => 0) :=
  (θ_run defs _ _).mono (fun r h => ⟨fun c => args m (h c), sem_eq_zero_of_no_sems (by decide) r.2⟩) (run_fold m ρ)

end Cert.ReferenceIdeal.Value

end
-- ==== Proof.Pre.lean ====
/-
  The precondition, read back into facts about single elements: the mask is one everywhere, and five of
  the arrays hold real numbers only.
-/
module

public import proofs.«01_k».proof.Pre_real_and_unmasked
public import Idealize.ShloMosaic.Lib.ReduceAll
public import Idealize.ShloMosaic.Lib.Pointwise

@[expose] public section

set_option maxRecDepth 16384

noncomputable section

namespace Cert.Pre_real_and_unmasked

open Idealize.ShloMosaic

/-- What the precondition's operations ask of their shapes. -/
instance facts : Facts where
  bcast_S_S16x512x512 := by decide
  reducesTo_S16x512x512_S_d0_1_2 := by decide
  h_S_ := by decide
  bcast_S_S512x512x3 := by decide
  reducesTo_S512x512x3_S_d0_1_2 := by decide
  bcast_S_S512 := by decide
  reducesTo_S512_S_d0 := by decide
  bcast_S_S512x512x5 := by decide
  reducesTo_S512x512x5_S_d0_1_2 := by decide
  bcast_S_S1x512 := by decide
  reducesTo_S1x512_S_d0_1 := by decide
  bcast_S_S16x1x512 := by decide
  reducesTo_S16x1x512_S_d0_1_2 := by decide

/-- A real number: neither infinity. -/
def Real (x : EReal) : Prop := x ≠ ⊤ ∧ x ≠ ⊥

instance : Subsingleton S_.Idx := ⟨fun _ _ => funext fun a => a.elim0⟩

/-- An and of two bits that is one has two ones. -/
theorem andi_one {a b : BitVec 1} (h : IntOp.andi a b = 1#1) : a = 1#1 ∧ b = 1#1 := by
  revert a b; decide

/-- The bit of a proposition that is one says that it holds. -/
theorem of_bit {p : Prop} [Decidable p] (h : BitVec.ofBool (decide p) = 1#1) : p := by
  by_contra hn; rw [decide_eq_false hn] at h; exact absurd h (by decide)

/-- A value above one constant and below another is a real number. -/
theorem real_of_cmp {x lo hi : EReal} (h : IntOp.andi (Ideal.cmp .ogt x lo) (Ideal.cmp .olt x hi) = 1#1) : Real x := by
  obtain ⟨h1, h2⟩ := andi_one h
  have h1 : lo < x := of_bit h1
  have h2 : x < hi := of_bit h2
  exact ⟨(lt_of_lt_of_le h2 le_top).ne, (lt_of_le_of_lt bot_le h1).ne'⟩

/-- A value that compares equal to the pattern of one is one. -/
theorem one_of_cmp {x : EReal} (h : Ideal.cmp .oeq x (Ideal.ofBits .f32 0x3F800000#32) = 1#1) : x = 1 := by
  have h : x = Ideal.ofBits .f32 0x3F800000#32 := of_bit h
  rw [h, Ideal.ofBits_one_f32]

variable {h : FVec Ideal S16x512x512 .f32} {mask : FVec Ideal S16x1x512 .f32} {cw : FVec Ideal S512x512x3 .f32}
  {cb : FVec Ideal S512 .f32} {a4 : FVec Ideal S1x512 .f32} {a5 : FVec Ideal S1 .f32} {up : FVec Ideal S512x512x5 .f32}
  {a7 : FVec Ideal S512 .f32} {c2 : FVec Ideal S1x512 .f32} {a9 : FVec Ideal S1 .f32}

/-- The precondition, element by element. -/
theorem decode (H : fn (F := Ideal) h mask cw cb a4 a5 up a7 c2 a9 = fun _ => 1#1) :
    (∀ i, Real (h i)) ∧ (∀ i, Real (cw i)) ∧ (∀ i, Real (cb i)) ∧ (∀ i, Real (up i)) ∧ (∀ i, Real (c2 i)) ∧ ∀ i, mask i = 1 := by
  have H := congrFun H (fun a => a.elim0)
  dsimp only [fn, fn_part1, fn_part2] at H
  obtain ⟨H, h6⟩ := andi_one H
  obtain ⟨H, h5⟩ := andi_one H
  obtain ⟨H, h4⟩ := andi_one H
  obtain ⟨H, h3⟩ := andi_one H
  obtain ⟨h1, h2⟩ := andi_one H
  refine ⟨fun i => ?_, fun i => ?_, fun i => ?_, fun i => ?_, fun i => ?_, fun i => ?_⟩
  · exact real_of_cmp (Host.reduce_andi_all _ _ _ _ _ h1 i)
  · exact real_of_cmp (Host.reduce_andi_all _ _ _ _ _ h2 i)
  · exact real_of_cmp (Host.reduce_andi_all _ _ _ _ _ h3 i)
  · exact real_of_cmp (Host.reduce_andi_all _ _ _ _ _ h4 i)
  · exact real_of_cmp (Host.reduce_andi_all _ _ _ _ _ h5 i)
  · exact one_of_cmp (Host.reduce_andi_all _ _ _ _ _ h6 i)

end Cert.Pre_real_and_unmasked

end
-- ==== Proof.Frames.lean ====
/-
  The frames of the kernel, in both of its readings, and of the reference.
-/
module

public import proofs.«01_k».proof.Defs
public import proofs.«01_k».proof.Proof.Gen.Kernel
public import proofs.«01_k».proof.Proof.Launch
public import proofs.«01_k».proof.Proof.Reference
public import proofs.«01_k».proof.Proof.Pre

@[expose] public section

set_option maxRecDepth 65536
set_option maxHeartbeats 8000000

noncomputable section

namespace Cert.Proof

open Idealize.ShloMosaic Idealize.SL.Sem

/-- The kernel read at exact arithmetic leaves its arguments alone. -/
theorem frame_pi : Cert.quiescent_KernelIdeal := fun m g _ => Cert.KernelIdeal.Run.frame (F := Ideal) m g

/-- The same from any memory. -/
theorem frame_pi_any : Cert.quiescent_KernelIdeal_pre_none := fun m g _ => Cert.KernelIdeal.Run.frame (F := Ideal) m g

/-- The reference leaves its arguments alone. -/
theorem frame_ri : Cert.quiescent_ReferenceIdeal := fun m g _ => Cert.ReferenceIdeal.Value.frame (F := Ideal) m g

/-- The kernel's program is one text read twice. -/
theorem main_eq {F : FTy → Type} [FloatOps F] : @Cert.Kernel.main F _ _ = @Cert.KernelIdeal.main F _ _ := rfl

/-- So are its calls. -/
theorem pcfgs_eq {F : FTy → Type} [FloatOps F] : @Cert.Kernel.pcfgs F _ = @Cert.KernelIdeal.pcfgs F _ := rfl

/-- So are the bodies of its calls. -/
theorem defs₀_eq {F : FTy → Type} [FloatOps F] : @Cert.Kernel.defs₀ F _ _ = @Cert.KernelIdeal.defs₀ F _ _ := by
  unfold Cert.Kernel.defs₀ Cert.KernelIdeal.defs₀
  refine congrArg Defs.onTc (funext fun l => funext fun x => ?_)
  match l, x with
  | ⟨0, _⟩, (t, s) => rfl
  | ⟨1, _⟩, (t, s) => rfl
  | ⟨2, _⟩, (t, s) => rfl
  | ⟨_ + 3, h⟩, _ => exact absurd h (Nat.not_lt.2 (Nat.le_add_left _ _))

/-- So is the table of them all. -/
theorem defs_eq {F : FTy → Type} [FloatOps F] : @Cert.Kernel.defs F _ _ = @Cert.KernelIdeal.defs F _ _ := by
  unfold Cert.Kernel.defs Cert.KernelIdeal.defs
  exact congrArg (Pipeline.defs (Cert.KernelIdeal.pcfgs (F := F))) defs₀_eq

/-- The kernel leaves its arguments alone: its program is the one text, read at another arithmetic. -/
theorem frame_p : Cert.quiescent_Kernel := fun m g _ => by
  have h := Cert.KernelIdeal.Run.frame (F := Bits) m g
  have e := congrArg₂ (fun d p => θ_run d (onTc (τ := Cert.KernelIdeal.τ) p) ⟨m, fun _ => 0, g⟩) (defs_eq (F := Bits)) (main_eq (F := Bits))
  rw [e]
  exact h

end Cert.Proof

end
-- ==== Proof.Region0.lean ====
module

public import proofs.«01_k».proof.Proof.Launch
public import Idealize.ShloMosaic.Lib.Pipeline.ValueKit
public import Idealize.ShloMosaic.Lib.Pointwise

@[expose] public section

set_option maxRecDepth 16384

/-! What the first call leaves: the convolution and the two projections, element by element. -/

noncomputable section

namespace Cert.KernelIdeal.Run

open Idealize.ShloMosaic Idealize.ShloMosaic.TcCoe Idealize.SL.Sem
open Idealize.ShloMosaic.Pipeline (Dat)
open Cert.KernelIdeal Cert.KernelIdeal.Gen

/-- The convolution of the padded rows, with its bias, cut off below at zero. -/
def hid (hp : FVec Ideal S16x520x512 .f32) (aw : FVec Ideal S3x512x512 .f32) (cb : FVec Ideal S1x512 .f32)
    (b : Fin 16) (t o : Fin 512) : EReal :=
  max ((((∑ d : Fin 512, hp (ix3 b ⟨t.val, by omega⟩ d) * aw (ix3 0 d o)) + (∑ d : Fin 512, hp (ix3 b ⟨1 + t.val, by omega⟩ d) * aw (ix3 1 d o)))
    + (∑ d : Fin 512, hp (ix3 b ⟨2 + t.val, by omega⟩ d) * aw (ix3 2 d o))) + cb (ix2 0 o)) 0

/-- Column `n` of the projections, through the logistic function. -/
def score (hp : FVec Ideal S16x520x512 .f32) (aw : FVec Ideal S3x512x512 .f32) (cb : FVec Ideal S1x512 .f32)
    (wp : FVec Ideal S512x8 .f32) (bp : FVec Ideal S1x8 .f32) (b : Fin 16) (t : Fin 512) (n : Fin 8) : EReal :=
  Ideal.logistic ((∑ o : Fin 512, hid hp aw cb b t o * wp (ix2 o n)) + bp (ix2 0 n))

theorem pay2_at (x : Vec Ideal S1x520x512 .f32) (w0 w1 w2 : Vec Ideal S1x512x512 .f32) (cb : Vec Ideal S1x512 .f32)
    (wp : Vec Ideal S512x8 .f32) (bp : Vec Ideal S1x8 .f32) (t : Fin 512) (n : Fin 8) :
    k0_pay2 (F := Ideal) x w0 w1 w2 cb wp bp (ix2 t n)
      = Ideal.logistic ((∑ o : Fin 512, max ((((∑ d : Fin 512, x (ix3 0 ⟨t.val, by omega⟩ d) * w0 (ix3 0 d o)) + (∑ d : Fin 512, x (ix3 0 ⟨1 + t.val, by omega⟩ d) * w1 (ix3 0 d o)))
    + (∑ d : Fin 512, x (ix3 0 ⟨2 + t.val, by omega⟩ d) * w2 (ix3 0 d o))) + cb (ix2 0 o)) 0 * wp (ix2 o n)) + bp (ix2 0 n)) := by
  pointwise [k0_pay2]

theorem pay1_at0 (v : FVec Ideal S512x8 .f32) : k0_pay1 (F := Ideal) v (ix3 0 0 0) = ∑ t : Fin 512, v (ix2 t 0) := by
  pointwise [k0_pay1]
  simp only [Fin.sum_univ_one]

theorem pay1_at1 (v : FVec Ideal S512x8 .f32) :
    k0_pay1 (F := Ideal) v (ix3 0 0 1) = ∑ t : Fin 512, ∑ k : Fin 5, v (ix2 t ⟨1 + k.val, by omega⟩) := by
  pointwise [k0_pay1]
  rfl

/-- The index maps of the first call's windows. -/
theorem idx0 : ∀ t : Fin cfg0.N, win0_0.index t = ![(grid0.coords t 0).val, 0, 0] ∧ win0_1.index t = ![0, 0, 0] ∧ win0_2.index t = ![0, 0]
    ∧ win0_3.index t = ![0, 0] ∧ win0_4.index t = ![0, 0] ∧ win0_5.index t = ![(grid0.coords t 0).val, 0, 0]
    ∧ win0_6.index t = ![(grid0.coords t 0).val, 0, 0] :=
  (by decide +kernel : ∀ t : Fin grid0.N, _)

variable (V : (c : Dev nD) → (b : Ref sig .tc) → Buf (Elt Ideal) ((c : Thread nD τ).loc b))

/-- The scores, as an array. -/
def scores (hp : FVec Ideal S16x520x512 .f32) (aw : FVec Ideal S3x512x512 .f32) (cb : FVec Ideal S1x512 .f32)
    (wp : FVec Ideal S512x8 .f32) (bp : FVec Ideal S1x8 .f32) : FVec Ideal S16x512x8 .f32 :=
  fun i => score hp aw cb wp bp (i 0) (i 1) (i 2)

theorem whole0_1 (c : Dev nD) (t : Fin cfg0.N) : iblk0 V c 1 t = V c main_v1 := by
  blk_ext! [iblk0, idx0 t]

theorem tap0 (X : Vec Ideal S3x512x512 .f32) (d o : Fin 512) : View.ld X r0_1 (ix3 0 d o) = X (ix3 0 d o) :=
  congrArg X (funext fun a => by fin_cases a <;> exact Fin.ext (by simp [Rect.emb, Rect.unit, ix3]))

theorem tap1 (X : Vec Ideal S3x512x512 .f32) (d o : Fin 512) : View.ld X r0_2 (ix3 0 d o) = X (ix3 1 d o) :=
  congrArg X (funext fun a => by fin_cases a <;> exact Fin.ext (by simp [Rect.emb, Rect.unit, ix3]))

theorem tap2 (X : Vec Ideal S3x512x512 .f32) (d o : Fin 512) : View.ld X r0_3 (ix3 0 d o) = X (ix3 2 d o) :=
  congrArg X (funext fun a => by fin_cases a <;> exact Fin.ext (by simp [Rect.emb, Rect.unit, ix3]))

/-- The sequence a grid point works on. -/
def seqOf (t : Fin cfg0.N) : Fin 16 := ⟨(grid0.coords t 0).val, (grid0.coords t 0).isLt⟩

/-- What the body computes at a grid point, over that point's blocks. -/
theorem point0 (c : Dev nD) (t : Fin cfg0.N) (r : Fin 512) (n : Fin 8) :
    k0_pay2 (F := Ideal) (iblk0 V c 0 t) (View.ld (iblk0 V c 1 t) r0_1) (View.ld (iblk0 V c 1 t) r0_2) (View.ld (iblk0 V c 1 t) r0_3)
      (iblk0 V c 2 t) (iblk0 V c 3 t) (iblk0 V c 4 t) (ix2 r n)
      = score (V c main_v0) (V c main_v1) (V c main_v2) (V c main_v7) (V c main_v17) (seqOf t) r n := by
  rw [pay2_at, whole0_1]
  unfold score hid seqOf
  blk_point [iblk0, idx0 t]
  · exact tap0 _ _ _
  · exact tap1 _ _ _
  · exact tap2 _ _ _

theorem arr0_5 (c : Dev nD) : (dat0 V c).arrAt 5 cfg0.N
    = scores (V c main_v0) (V c main_v1) (V c main_v2) (V c main_v7) (V c main_v17) := by
  refine (dat0 V c).arrAt_eq_of_covers 5 _ (by decide +kernel) fun t _ y => ?_
  blk_simp
  rw [after0_5]
  unfold out0_5
  frame_out
  idx_vars y
  pointwise [k0_pay3]
  refine (point0 V c t y1 y2).trans ?_
  have e : ((cfg0.win 5).blk t).view.emb (ix3 y0 y1 y2) = (ix3 (seqOf t) y1 y2 : S16x512x8.Idx) := by
    unfold seqOf; blk_ext [idx0 t]
  exact (congrArg (scores (V c main_v0) (V c main_v1) (V c main_v2) (V c main_v7) (V c main_v17)) e).symm

/-- The first lane: the sum of the first column. -/
theorem arr0_6_0 (c : Dev nD) (b : Fin 16) : (dat0 V c).arrAt 6 cfg0.N (ix3 b 0 0)
    = ∑ t : Fin 512, score (V c main_v0) (V c main_v1) (V c main_v2) (V c main_v7) (V c main_v17) b t 0 := by
  have h := (dat0 V c).arrAt_forall_of_covers 6 (fun i v => (i 2).val = 0 → v = ∑ t : Fin 512, score (V c main_v0) (V c main_v1) (V c main_v2) (V c main_v7) (V c main_v17) (i 0) t 0)
    (by decide +kernel) (fun t _ y => ?_) (ix3 b 0 0)
  · exact h rfl
  · blk_simp
    rw [after0_6]
    unfold out0_6
    frame_out
    intro hz
    idx_vars y
    obtain rfl : y2 = 0 := Fin.ext (by simp only [idx0 t] at hz; simpa using hz)
    obtain rfl : y0 = 0 := Subsingleton.elim _ _
    obtain rfl : y1 = 0 := Subsingleton.elim _ _
    refine (pay1_at0 _).trans (Finset.sum_congr rfl fun r _ => (point0 V c t r 0).trans ?_)
    refine congrArg (fun z : Fin 16 => score (V c main_v0) (V c main_v1) (V c main_v2) (V c main_v7) (V c main_v17) z r 0) (Fin.ext ?_)
    blk_simp [seqOf, idx0 t]
    exact (Nat.add_zero _).symm

/-- The second lane: the sum of the next five columns. -/
theorem arr0_6_1 (c : Dev nD) (b : Fin 16) : (dat0 V c).arrAt 6 cfg0.N (ix3 b 0 1)
    = ∑ t : Fin 512, ∑ k : Fin 5, score (V c main_v0) (V c main_v1) (V c main_v2) (V c main_v7) (V c main_v17) b t ⟨1 + k.val, by omega⟩ := by
  have h := (dat0 V c).arrAt_forall_of_covers 6 (fun i v => (i 2).val = 1 → v = ∑ t : Fin 512, ∑ k : Fin 5, score (V c main_v0) (V c main_v1) (V c main_v2) (V c main_v7) (V c main_v17) (i 0) t ⟨1 + k.val, by omega⟩)
    (by decide +kernel) (fun t _ y => ?_) (ix3 b 0 1)
  · exact h rfl
  · blk_simp
    rw [after0_6]
    unfold out0_6
    frame_out
    intro hz
    idx_vars y
    obtain rfl : y2 = 1 := Fin.ext (by simp only [idx0 t] at hz; simpa using hz)
    obtain rfl : y0 = 0 := Subsingleton.elim _ _
    obtain rfl : y1 = 0 := Subsingleton.elim _ _
    refine (pay1_at1 _).trans (Finset.sum_congr rfl fun r _ => Finset.sum_congr rfl fun k _ => (point0 V c t r _).trans ?_)
    refine congrArg (fun z : Fin 16 => score (V c main_v0) (V c main_v1) (V c main_v2) (V c main_v7) (V c main_v17) z r ⟨1 + k.val, by omega⟩) (Fin.ext ?_)
    blk_simp [seqOf, idx0 t]
    exact (Nat.add_zero _).symm

end Cert.KernelIdeal.Run
-- ==== Proof.Spec.lean ====
/-
  What the kernel and the reference both compute, as plain functions of the arrays' elements, and the
  facts about these functions that the two programs' forms of them differ by.
-/
module

public import Idealize.ShloMosaic.PureOps.Ideal
public import Mathlib.Algebra.BigOperators.Fin

@[expose] public section

noncomputable section

namespace Cert.Spec

open Idealize.ShloMosaic
open Finset (range)

/-! ## The convolution and the two projections -/

section Arrays

variable (x : Fin 16 → Fin 512 → Fin 512 → EReal) (w : Fin 512 → Fin 512 → Fin 3 → EReal) (cb : Fin 512 → EReal)

/-- Row `n` of the sequence with one row of zeros before it and zeros after it. -/
def padded (b : Fin 16) (n : ℕ) (d : Fin 512) : EReal :=
  if h : 1 ≤ n ∧ n < 513 then x b ⟨n - 1, by omega⟩ d else 0

/-- The convolution over three neighbouring rows, with its bias, cut off below at zero. -/
def act (b : Fin 16) (t o : Fin 512) : EReal :=
  max (((∑ d, padded x b t d * w o d 0) + (∑ d, padded x b (t + 1) d * w o d 1)) + (∑ d, padded x b (t + 2) d * w o d 2) + cb o) 0

end Arrays

/-- The logistic function. -/
def sig (z : EReal) : EReal := Ideal.logistic z

section Heads

variable (y : Fin 16 → Fin 512 → Fin 512 → EReal)

/-- The weight of row `t`. -/
def alpha (aw : Fin 512 → EReal) (ab : EReal) (b : Fin 16) (t : Fin 512) : EReal := sig ((∑ o, y b t o * aw o) + ab)

/-- The weights of a sequence, added up. -/
def tokens (aw : Fin 512 → EReal) (ab : EReal) (b : Fin 16) : EReal := ∑ t, alpha y aw ab b t

/-- The weight of the `k`-th of the five rows that row `t` is spread out to: the spreading contracted with the
    projection first. -/
def fine (up : Fin 512 → Fin 512 → Fin 5 → EReal) (ub c : Fin 512 → EReal) (cb : EReal) (b : Fin 16) (t : Fin 512) (k : Fin 5) : EReal :=
  sig ((∑ i, y b t i * ∑ o, c o * up o i k) + ((∑ o, ub o * c o) + cb))

/-- These weights, added up. -/
def fineTokens (up : Fin 512 → Fin 512 → Fin 5 → EReal) (ub c : Fin 512 → EReal) (cb : EReal) (b : Fin 16) : EReal :=
  ∑ t, ∑ k, fine y up ub c cb b t k

end Heads

/-! ## The integration of the weights -/

section Scan

variable (a : Fin 512 → EReal) (h : Fin 512 → Fin 512 → EReal)

/-- The weight of row `k`; zero past the end. -/
def wt (k : ℕ) : EReal := if hk : k < 512 then a ⟨k, hk⟩ else 0

/-- Element `d` of row `k`; zero past the end. -/
def row (k : ℕ) (d : Fin 512) : EReal := if hk : k < 512 then h ⟨k, hk⟩ d else 0

/-- The weight gathered before row `k` and not yet spent. -/
def gathered : ℕ → EReal
  | 0 => 0
  | k + 1 => if 1 ≤ gathered k + wt a k then gathered k + wt a k - 1 else gathered k + wt a k

/-- The weight gathered with row `k`. -/
def level (k : ℕ) : EReal := gathered a k + wt a k

theorem gathered_succ (k : ℕ) : gathered a (k + 1) = if 1 ≤ level a k then level a k - 1 else level a k := rfl

open Classical in
/-- The number of rows before row `k` at which the level reaches one. -/
def count : ℕ → ℕ
  | 0 => 0
  | k + 1 => if 1 ≤ level a k then count k + 1 else count k

/-- What row `k` gives to the segment being filled. -/
def cur (k : ℕ) : EReal := if 1 ≤ level a k then 1 - gathered a k else wt a k

/-- What row `k` has left for the next segment. -/
def left (k : ℕ) : EReal := wt a k - cur a k

/-- The segment being filled, before row `k`. -/
def frame (d : Fin 512) : ℕ → EReal
  | 0 => 0
  | k + 1 => if 1 ≤ level a k then left a k * row h k d else frame d k + cur a k * row h k d

/-- The segment being filled, with row `k`. -/
def segment (k : ℕ) (d : Fin 512) : EReal := frame a h d k + cur a k * row h k d

/-- The share of row `t` in segment `j`. -/
def share (j t : ℕ) : EReal :=
  (if count a t = j then cur a t else 0) + (if 1 ≤ level a t ∧ count a t + 1 = j then left a t else 0)

/-- Segment `j` as the sum over the rows by their shares; zero when the sequence has no such segment. -/
def acoustic (j : ℕ) (d : Fin 512) : EReal :=
  if j < count a 512 then ∑ t : Fin 512, share a j t * h t d else 0

theorem count_mono : Monotone (count a) := monotone_nat_of_le_succ fun k => by
  rw [count]; split <;> omega

theorem count_succ_of_fire {k : ℕ} (hk : 1 ≤ level a k) : count a (k + 1) = count a k + 1 := by rw [count, if_pos hk]
theorem count_succ_of_not {k : ℕ} (hk : ¬ 1 ≤ level a k) : count a (k + 1) = count a k := by rw [count, if_neg hk]

/-- The count grows by one at most. -/
theorem count_le (k : ℕ) : count a k ≤ k := by
  induction k with
  | zero => exact le_rfl
  | succ k ih => rw [count]; split <;> omega

/-- A row before the segment's first has no share in it. -/
theorem share_eq_zero_of_lt {j t : ℕ} (h1 : count a t < j) (h2 : count a (t + 1) < j) : share a j t = 0 := by
  unfold share
  rw [if_neg (by omega), if_neg, add_zero]
  rintro ⟨hf, hj⟩
  rw [count_succ_of_fire a hf] at h2
  omega

/-- A row past the segment's last has no share in it. -/
theorem share_eq_zero_of_gt {j t : ℕ} (h1 : j < count a t) : share a j t = 0 := by
  unfold share
  rw [if_neg (by omega), if_neg (by omega), add_zero]

/-- The segment being filled is the sum of its rows so far. -/
theorem frame_eq_sum (d : Fin 512) (k : ℕ) : frame a h d k = ∑ t ∈ range k, share a (count a k) t * row h t d := by
  induction k with
  | zero => rfl
  | succ k ih =>
    rw [frame, Finset.sum_range_succ]
    by_cases hk : 1 ≤ level a k
    · rw [if_pos hk, count_succ_of_fire a hk, Finset.sum_eq_zero, zero_add]
      · rw [show share a (count a k + 1) k = left a k by
          unfold share; rw [if_neg (by omega), if_pos ⟨hk, rfl⟩, zero_add]]
      · intro t ht
        have ht := Finset.mem_range.1 ht
        have h1 := count_mono a (show t ≤ k by omega)
        have h2 := count_mono a (show t + 1 ≤ k by omega)
        rw [share_eq_zero_of_lt a (by omega) (by omega), zero_mul]
    · rw [if_neg hk, count_succ_of_not a hk, ih, show share a (count a k) k = cur a k by
        unfold share; rw [if_pos rfl, if_neg (fun h => hk h.1), add_zero]]

/-- A finished segment is the sum over all rows. -/
theorem segment_eq_sum (d : Fin 512) {k : ℕ} (hk : k < 512) (hf : 1 ≤ level a k) :
    segment a h k d = ∑ t ∈ range 512, share a (count a k) t * row h t d := by
  have h1 : segment a h k d = ∑ t ∈ range (k + 1), share a (count a k) t * row h t d := by
    rw [Finset.sum_range_succ, segment, frame_eq_sum, show share a (count a k) k = cur a k by
      unfold share; rw [if_pos rfl, if_neg (by omega), add_zero]]
  rw [h1]
  refine Finset.sum_subset (fun t ht => Finset.mem_range.2 (by have := Finset.mem_range.1 ht; omega)) fun t _ ht => ?_
  have ht : k + 1 ≤ t := by simpa using ht
  have h2 := count_mono a ht
  rw [count_succ_of_fire a hf] at h2
  rw [share_eq_zero_of_gt a (by omega), zero_mul]

/-- The same over the rows themselves. -/
theorem segment_eq (d : Fin 512) {k : ℕ} (hk : k < 512) (hf : 1 ≤ level a k) :
    segment a h k d = ∑ t : Fin 512, share a (count a k) t * h t d := by
  rw [segment_eq_sum a h d hk hf, Finset.sum_range]
  exact Finset.sum_congr rfl fun t _ => by rw [row, dif_pos t.isLt]

/-- Read off the row that finishes it, a segment is `acoustic`. -/
theorem acoustic_of_fire (d : Fin 512) {k : ℕ} (hk : k < 512) (hf : 1 ≤ level a k) :
    acoustic a h (count a k) d = segment a h k d := by
  have h1 := count_mono a (show k + 1 ≤ 512 by omega)
  rw [count_succ_of_fire a hf] at h1
  rw [acoustic, if_pos (by omega), segment_eq a h d hk hf]

end Scan

end Cert.Spec

end
-- ==== Proof.Region1.lean ====
module

public import proofs.«01_k».proof.Proof.Launch
public import proofs.«01_k».proof.Proof.Spec
public import Idealize.ShloMosaic.Lib.Pipeline.ValueKit
public import Idealize.ShloMosaic.Lib.Pointwise

@[expose] public section

set_option maxRecDepth 16384

/-! What the second call leaves: the integration of the weights, element by element. -/

noncomputable section

namespace Cert.KernelIdeal.Run

open Idealize.ShloMosaic Idealize.ShloMosaic.TcCoe Idealize.SL.Sem
open Idealize.ShloMosaic.Pipeline (Dat)
open Cert.KernelIdeal Cert.KernelIdeal.Gen

/-- The weights of sequence `b`, one per row. -/
def column (X : Vec Ideal S512x16 .f32) (b : Fin 16) : Fin 512 → EReal := fun t => X (ix2 t b)

theorem inRow_at (X : Vec Ideal S512x16 .f32) (k : Fin k1_t1_loop.trips) (b : Fin 16) :
    inRow X k (lane b) = Spec.wt (column X b) k.val := by
  have hk : k.val < 512 := lt_of_lt_of_eq k.isLt trips_eq
  rw [Spec.wt, dif_pos hk]
  exact congrArg X (idx_ext ((rowRect_emb0 k _).trans (Nat.add_zero _)) (rowRect_emb1 k _))

/-- A comparison with one, as a choice. -/
theorem select_one_le (z x y : EReal) : Scalar.select (Ideal.cmp .oge z 1) x y = if 1 ≤ z then x else y := by
  classical
  by_cases h : (1 : EReal) ≤ z <;> simp [Ideal.cmp, Scalar.select, h]

theorem pay3_at (p v : FVec Ideal S1x16 .f32) (b : Fin 16) : k1_pay3 p v (lane b) = p (lane b) + v (lane b) := by
  pointwise [k1_pay3, k1_pay2]

theorem pay5_at (p v : FVec Ideal S1x16 .f32) (b : Fin 16) :
    k1_pay5 p v (lane b) = if 1 ≤ p (lane b) + v (lane b) then 1 - p (lane b) else v (lane b) := by
  pointwise [k1_pay5, k1_pay4, k1_pay3, k1_pay2]

theorem pay6_at (p v : FVec Ideal S1x16 .f32) (b : Fin 16) :
    k1_pay6 p v (lane b) = if 1 ≤ p (lane b) + v (lane b) then v (lane b) - (if 1 ≤ p (lane b) + v (lane b) then 1 - p (lane b) else v (lane b)) else 0 := by
  pointwise [k1_pay6, k1_pay5, k1_pay4, k1_pay3, k1_pay2]

theorem pay7_at (p n v : FVec Ideal S1x16 .f32) (b : Fin 16) :
    k1_pay7 p n v (lane b) = n (lane b) + if 1 ≤ p (lane b) + v (lane b) then 1 else 0 := by
  pointwise [k1_pay7, k1_pay4, k1_pay3, k1_pay2]

theorem pay8_at (p v : FVec Ideal S1x16 .f32) (b : Fin 16) :
    k1_pay8 p v (lane b) = if 1 ≤ p (lane b) + v (lane b) then p (lane b) + v (lane b) - 1 else p (lane b) + v (lane b) := by
  pointwise [k1_pay8, k1_pay4, k1_pay3, k1_pay2]

theorem pay1z_at (b : Fin 16) : k1_pay1 (F := Ideal) (lane b) = 0 := by
  pointwise [k1_pay1]

theorem pay9_at (n : FVec Ideal S1x16 .f32) (s w : FVec Ideal S512x16 .f32) (t : Fin 512) (b : Fin 16) :
    k1_pay9 n s w (ix2 t b) = if s (ix2 t b) < n (lane b) then w (ix2 t b) else 0 := by
  pointwise [k1_pay9]

theorem pay10_at (n : FVec Ideal S1x16 .f32) (s w : FVec Ideal S512x16 .f32) (t : Fin 512) (b : Fin 16) :
    k1_pay10 n s w (ix2 t b) = if s (ix2 t b) < n (lane b) then w (ix2 t b) else 0 := by
  pointwise [k1_pay10]

/-- Before row `k`, the accumulators hold the weight gathered and the number of rows that fired. -/
theorem carry_at (X : Vec Ideal S512x16 .f32) (b : Fin 16) : ∀ k : ℕ, k ≤ 512 →
    (carry X k).1 (lane b) = Spec.gathered (column X b) k ∧ (carry X k).2 (lane b) = ((Spec.count (column X b) k : ℕ) : EReal)
  | 0, _ => by
    rw [carry_zero]
    exact ⟨pay1z_at b, (pay1z_at b).trans Nat.cast_zero.symm⟩
  | k + 1, hk => by
    have h := carry_at X b k (by omega)
    have hs := carry_succ X ⟨k, by rw [trips_eq]; omega⟩
    rw [show carry X (k + 1) = _ from hs]
    unfold nextCarry
    constructor
    · refine (pay8_at _ _ b).trans ?_
      rw [h.1, inRow_at]
      rfl
    · refine (pay7_at _ _ _ b).trans ?_
      rw [h.1, h.2, inRow_at, Spec.count]
      change _ + (if 1 ≤ Spec.level (column X b) k then (1 : EReal) else 0) = _
      split
      · exact (Nat.cast_succ _).symm
      · exact add_zero _

theorem inRow_trip (X : Vec Ideal S512x16 .f32) (t : Fin 512) (b : Fin 16) :
    inRow X (tripOf t) (lane b) = Spec.wt (column X b) t.val := inRow_at X (tripOf t) b

section Rows

variable (X : Vec Ideal S512x16 .f32) (t : Fin 512) (b : Fin 16)

theorem fires_at : fires X (ix2 t b) = Spec.level (column X b) t := by
  refine (pay3_at (carry X t.val).1 (inRow X (tripOf t)) b).trans ?_
  rw [inRow_trip, (carry_at X b _ t.isLt.le).1]
  rfl

theorem curRow_at : ofRows (curRow X) (ix2 t b) = Spec.cur (column X b) t := by
  refine (pay5_at (carry X t.val).1 (inRow X (tripOf t)) b).trans ?_
  rw [inRow_trip, (carry_at X b _ t.isLt.le).1]
  rfl

theorem remRow_at : ofRows (remRow X) (ix2 t b) = if 1 ≤ Spec.level (column X b) t then Spec.left (column X b) t else 0 := by
  refine (pay6_at (carry X t.val).1 (inRow X (tripOf t)) b).trans ?_
  rw [inRow_trip, (carry_at X b _ t.isLt.le).1]
  rfl

theorem seg_at : seg X (ix2 t b) = ((Spec.count (column X b) t : ℕ) : EReal) := (carry_at X b _ t.isLt.le).2

theorem nextSeg_at : nextSeg X (ix2 t b) = ((Spec.count (column X b) (t + 1) : ℕ) : EReal) := by
  have h := (carry_at X b (t.val + 1) t.isLt).2
  rw [show carry X (t.val + 1) = _ from carry_succ X (tripOf t)] at h
  exact h

theorem total_at : total X (lane b) = ((Spec.count (column X b) 512 : ℕ) : EReal) := by
  unfold total
  rw [trips_eq]
  exact (carry_at X b 512 le_rfl).2

theorem cur_at : cur X (ix2 t b) = if Spec.count (column X b) t < Spec.count (column X b) 512 then Spec.cur (column X b) t else 0 := by
  refine (pay9_at _ _ _ t b).trans ?_
  rw [seg_at, total_at, curRow_at]
  exact if_congr EReal.natCast_lt_iff rfl rfl

theorem rem_at : rem X (ix2 t b) = if Spec.count (column X b) (t + 1) < Spec.count (column X b) 512
    then (if 1 ≤ Spec.level (column X b) t then Spec.left (column X b) t else 0) else 0 := by
  refine (pay10_at _ _ _ t b).trans ?_
  rw [nextSeg_at, total_at, remRow_at]
  exact if_congr EReal.natCast_lt_iff rfl rfl

end Rows

/-! ## The arrays -/

variable (V : (c : Dev nD) → (b : Ref sig .tc) → Buf (Elt Ideal) ((c : Thread nD τ).loc b))

/-- The index maps of the second call's windows. -/
theorem idx1 : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] :=
  (by decide +kernel : ∀ t : Fin grid1.N, _)

theorem whole1_0 (c : Dev nD) (t : Fin cfg1.N) : iblk1 V c 0 t = V c main_v25 := by
  blk_ext! [iblk1, idx1 t]

theorem arr1_1 (c : Dev nD) : (dat1 V c).arrAt 1 cfg1.N = fires (V c main_v25) := by
  refine (dat1 V c).arrAt_eq_of_covers 1 _ (by decide +kernel) fun t _ y => ?_
  blk_simp
  rw [after1_1, whole1_0]
  blk_ext [idx1 t]

theorem arr1_2 (c : Dev nD) : (dat1 V c).arrAt 2 cfg1.N = cur (V c main_v25) := by
  refine (dat1 V c).arrAt_eq_of_covers 2 _ (by decide +kernel) fun t _ y => ?_
  blk_simp
  rw [after1_2, whole1_0]
  blk_ext [idx1 t]

theorem arr1_3 (c : Dev nD) : (dat1 V c).arrAt 3 cfg1.N = rem (V c main_v25) := by
  refine (dat1 V c).arrAt_eq_of_covers 3 _ (by decide +kernel) fun t _ y => ?_
  blk_simp
  rw [after1_3, whole1_0]
  blk_ext [idx1 t]

theorem arr1_4 (c : Dev nD) : (dat1 V c).arrAt 4 cfg1.N = seg (V c main_v25) := by
  refine (dat1 V c).arrAt_eq_of_covers 4 _ (by decide +kernel) fun t _ y => ?_
  blk_simp
  rw [after1_4, whole1_0]
  blk_ext [idx1 t]

theorem arr1_5 (c : Dev nD) : (dat1 V c).arrAt 5 cfg1.N = nextSeg (V c main_v25) := by
  refine (dat1 V c).arrAt_eq_of_covers 5 _ (by decide +kernel) fun t _ y => ?_
  blk_simp
  rw [after1_5, whole1_0]
  blk_ext [idx1 t]

end Cert.KernelIdeal.Run
-- ==== Proof.Region2.lean ====
module

public import proofs.«01_k».proof.Proof.Launch
public import proofs.«01_k».proof.Proof.Spec
public import Idealize.ShloMosaic.Lib.Pipeline.ValueKit
public import Idealize.ShloMosaic.Lib.Pointwise

@[expose] public section

set_option maxRecDepth 16384

/-! What the third call leaves: the rows gathered into segments, element by element. -/

noncomputable section

namespace Cert.KernelIdeal.Run

open Idealize.ShloMosaic Idealize.ShloMosaic.TcCoe Idealize.SL.Sem
open Idealize.ShloMosaic.Pipeline (Dat)
open Cert.KernelIdeal Cert.KernelIdeal.Gen

/-- Row `j` of the third result: the rows of the sequence, each by its two weights where its two segments are `j`. -/
def gatherRow (h : FVec Ideal S16x512x512 .f32) (w1 w2 s1 s2 : FVec Ideal S16x1x512 .f32) (b : Fin 16) (j d : Fin 512) : EReal :=
  ∑ t : Fin 512, ((if s1 (ix3 b 0 t) = ((j.val : ℕ) : EReal) then w1 (ix3 b 0 t) else 0)
    + (if s2 (ix3 b 0 t) = ((j.val : ℕ) : EReal) then w2 (ix3 b 0 t) else 0)) * h (ix3 b t d)

theorem sel_eq (z w x y : EReal) : Scalar.select (Ideal.cmp .oeq z w) x y = if z = w then x else y := by
  classical
  by_cases h : z = w <;> simp [Ideal.cmp, Scalar.select, h]

/-- A row's number read back as a real. -/
theorem ofRow (j : Fin 512) : FloatOps.sitofp (F := Ideal) .f32 (BitVec.ofNat 32 j.val) = ((j.val : ℕ) : EReal) := by
  change (((BitVec.ofNat 32 j.val).toInt : ℝ) : EReal) = _
  rw [BitVec.toInt_eq_toNat_of_lt (by rw [BitVec.toNat_ofNat]; omega), BitVec.toNat_ofNat, Nat.mod_eq_of_lt (by omega)]
  simp

theorem pay2_1_at (s1 w1 s2 w2 : Vec Ideal S1x1x512 .f32) (h : Vec Ideal S1x512x512 .f32) (j d : Fin 512) :
    k2_pay1 (F := Ideal) s1 w1 s2 w2 h (ix3 0 j d)
      = ∑ t : Fin 512, ((if s1 (ix3 0 0 t) = ((j.val : ℕ) : EReal) then w1 (ix3 0 0 t) else 0)
    + (if s2 (ix3 0 0 t) = ((j.val : ℕ) : EReal) then w2 (ix3 0 0 t) else 0)) * h (ix3 0 t d) := by
  pointwise [k2_pay1]
  simp only [ofRow]

variable (V : (c : Dev nD) → (b : Ref sig .tc) → Buf (Elt Ideal) ((c : Thread nD τ).loc b))

/-- The index maps of the third call's windows. -/
theorem idx2 : ∀ t : Fin cfg2.N, win2_0.index t = ![(grid2.coords t 0).val, 0, 0] ∧ win2_1.index t = ![(grid2.coords t 0).val, 0, 0]
    ∧ win2_2.index t = ![(grid2.coords t 0).val, 0, 0] ∧ win2_3.index t = ![(grid2.coords t 0).val, 0, 0]
    ∧ win2_4.index t = ![(grid2.coords t 0).val, 0, 0] ∧ win2_5.index t = ![(grid2.coords t 0).val, 0, 0] :=
  (by decide +kernel : ∀ t : Fin grid2.N, _)

/-- These rows as an array. -/
def gatherRows (h : FVec Ideal S16x512x512 .f32) (w1 w2 s1 s2 : FVec Ideal S16x1x512 .f32) : FVec Ideal S16x512x512 .f32 :=
  fun i => gatherRow h w1 w2 s1 s2 (i 0) (i 1) (i 2)

theorem arr2_5 (c : Dev nD) : (dat2 V c).arrAt 5 cfg2.N
    = gatherRows (V c main_arg0) (V c main_v29) (V c main_v31) (V c main_v33) (V c main_v35) := by
  refine (dat2 V c).arrAt_eq_of_covers 5 _ (by decide +kernel) fun p _ y => ?_
  blk_simp
  rw [after2_5]
  unfold out2_5
  frame_out
  idx_vars y
  obtain rfl : y0 = 0 := Subsingleton.elim _ _
  refine (pay2_1_at _ _ _ _ _ y1 y2).trans ?_
  have e : ((cfg2.win 5).blk p).view.emb (ix3 0 y1 y2) = (ix3 ⟨(grid2.coords p 0).val, (grid2.coords p 0).isLt⟩ y1 y2 : S16x512x512.Idx) := by
    blk_ext [idx2 p]
  refine Eq.trans ?_ (congrArg (gatherRows (V c main_arg0) (V c main_v29) (V c main_v31) (V c main_v33) (V c main_v35)) e).symm
  change _ = gatherRow _ _ _ _ _ ⟨(grid2.coords p 0).val, (grid2.coords p 0).isLt⟩ y1 y2
  unfold gatherRow
  blk_point [iblk2, idx2 p]

end Cert.KernelIdeal.Run
-- ==== Proof.Results.lean ====
module

public import proofs.«01_k».proof.Proof.Spec
public import Idealize.ShloMosaic.Lib.Pointwise

@[expose] public section

/-! The functions both programs compute, on the argument arrays. -/

noncomputable section

namespace Cert.Spec

open Idealize.ShloMosaic

/-- The argument arrays the results depend on. -/
structure Args where
  hidden : FVec Ideal ⟨3, ![16, 512, 512]⟩ .f32
  convW : FVec Ideal ⟨3, ![512, 512, 3]⟩ .f32
  convB : FVec Ideal ⟨1, ![512]⟩ .f32
  outW : FVec Ideal ⟨2, ![1, 512]⟩ .f32
  outB : FVec Ideal ⟨1, ![1]⟩ .f32
  upW : FVec Ideal ⟨3, ![512, 512, 5]⟩ .f32
  upB : FVec Ideal ⟨1, ![512]⟩ .f32
  out2W : FVec Ideal ⟨2, ![1, 512]⟩ .f32
  out2B : FVec Ideal ⟨1, ![1]⟩ .f32

namespace Args

variable (A : Args)

/-- The hidden rows. -/
def h (b : Fin 16) (t d : Fin 512) : EReal := A.hidden (ix3 b t d)
/-- The convolved rows. -/
def y (b : Fin 16) (t o : Fin 512) : EReal := act A.h (fun o d k => A.convW (ix3 o d k)) (fun o => A.convB (ix1 o)) b t o
/-- The weight of a row. -/
def a (b : Fin 16) (t : Fin 512) : EReal := alpha A.y (fun o => A.outW (ix2 0 o)) (A.outB (ix1 0)) b t
/-- The weight of a row of the longer sequence. -/
def f (b : Fin 16) (t : Fin 512) (k : Fin 5) : EReal :=
  fine A.y (fun o i k => A.upW (ix3 o i k)) (fun o => A.upB (ix1 o)) (fun o => A.out2W (ix2 0 o)) (A.out2B (ix1 0)) b t k

/-- The gathered segments. -/
def segments : FVec Ideal ⟨3, ![16, 512, 512]⟩ .f32 := fun i => acoustic (A.a (i 0)) (A.h (i 0)) (i 1 : Fin 512) (i 2)
/-- The weights' sum. -/
def tokenNum : FVec Ideal ⟨1, ![16]⟩ .f32 := fun i => ∑ t : Fin 512, A.a (i 0) t
/-- The weights. -/
def alphas : FVec Ideal ⟨2, ![16, 512]⟩ .f32 := fun i => A.a (i 0) (i 1)
/-- The levels. -/
def levels : FVec Ideal ⟨2, ![16, 512]⟩ .f32 := fun i => level (A.a (i 0)) (i 1 : Fin 512)
/-- The longer sequence's weights' sum. -/
def tokenNum2 : FVec Ideal ⟨1, ![16]⟩ .f32 := fun i => ∑ t : Fin 512, ∑ k : Fin 5, A.f (i 0) t k

end Args

end Cert.Spec
-- ==== Proof.Host.lean ====
module

public import proofs.«01_k».proof.Proof.Region0
public import proofs.«01_k».proof.Proof.Region1
public import proofs.«01_k».proof.Proof.Region2
public import proofs.«01_k».proof.Proof.Results
public import Idealize.ShloMosaic.Lib.Pointwise
public import Idealize.ShloMosaic.Lib.StableHlo.ReadAt

@[expose] public section

set_option maxRecDepth 16384

/-! What the host operations around the calls leave, and the results of the whole kernel. -/

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The argument arrays a device starts with. -/
def argsOf (c : Dev nD) : Spec.Args where
  hidden := m ((c : Thread nD τ).loc main_arg0)
  convW := m ((c : Thread nD τ).loc main_arg2)
  convB := m ((c : Thread nD τ).loc main_arg3)
  outW := m ((c : Thread nD τ).loc main_arg4)
  outB := m ((c : Thread nD τ).loc main_arg5)
  upW := m ((c : Thread nD τ).loc main_arg6)
  upB := m ((c : Thread nD τ).loc main_arg7)
  out2W := m ((c : Thread nD τ).loc main_arg8)
  out2B := m ((c : Thread nD τ).loc main_arg9)

theorem V3_v0 (c : Dev nD) (b : Fin 16) (n : Fin 520) (d : Fin 512) :
    V3 m ρ c main_v0 (ix3 b n d) = Spec.padded (argsOf m c).h b n.val d := by
  change StableHlo.after hostOps0_2 (StableHlo.after hostOps0_1 (StableHlo.after hostOps0 (W0 m ρ c))) (Proc.devRef .tc main_v0) _ = _
  after_reads_at
  unfold Spec.padded
  by_cases h : 1 ≤ n.val ∧ n.val < 513
  · rw [dif_pos h, dif_pos (by omega)]
    rfl
  · rw [dif_neg h, dif_neg (by omega)]
    change (((0#32 : BitVec 32).toInt : ℝ) : EReal) = 0
    simp

theorem V3_v1 (c : Dev nD) (k : Fin 3) (d o : Fin 512) : V3 m ρ c main_v1 (ix3 k d o) = (argsOf m c).convW (ix3 o d k) := by
  change StableHlo.after hostOps0_2 (W2 m ρ c) (Proc.devRef .tc main_v1) _ = _
  after_reads_at
  rfl

theorem V3_v2 (c : Dev nD) (o : Fin 512) : V3 m ρ c main_v2 (ix2 0 o) = (argsOf m c).convB (ix1 o) := by
  change StableHlo.after hostOps0_2 (W2 m ρ c) (Proc.devRef .tc main_v2) _ = _
  after_reads_at
  rfl

theorem V3_v7_0 (c : Dev nD) (o : Fin 512) : V3 m ρ c main_v7 (ix2 o 0) = (argsOf m c).outW (ix2 0 o) := by
  change StableHlo.after hostOps0_2 (W2 m ρ c) (Proc.devRef .tc main_v7) _ = _
  after_reads_at
  after_reads_at
  rfl

theorem V3_v7_1 (c : Dev nD) (i : Fin 512) (k : Fin 5) : V3 m ρ c main_v7 (ix2 i ⟨1 + k.val, by omega⟩)
    = ∑ o : Fin 512, (argsOf m c).out2W (ix2 0 o) * (argsOf m c).upW (ix3 o i k) := by
  change StableHlo.after hostOps0_2 (W2 m ρ c) (Proc.devRef .tc main_v7) _ = _
  after_reads_at
  after_reads_at
  rfl

theorem V3_v17_0 (c : Dev nD) : V3 m ρ c main_v17 (ix2 0 0) = (argsOf m c).outB (ix1 0) := by
  change StableHlo.after hostOps0_2 (W2 m ρ c) (Proc.devRef .tc main_v17) _ = _
  after_reads_at
  after_reads_at
  rfl

theorem V3_v17_1 (c : Dev nD) (k : Fin 5) : V3 m ρ c main_v17 (ix2 0 ⟨1 + k.val, by omega⟩)
    = (∑ o : Fin 512, (argsOf m c).upB (ix1 o) * (argsOf m c).out2W (ix2 0 o)) + (argsOf m c).out2B (ix1 0) := by
  change StableHlo.after hostOps0_2 (W2 m ρ c) (Proc.devRef .tc main_v17) _ = _
  after_reads_at
  after_reads_at
  rfl

section Forms

variable (A : Spec.Args) {hp : FVec Ideal S16x520x512 .f32} {aw : FVec Ideal S3x512x512 .f32} {cb : FVec Ideal S1x512 .f32}
  {wp : FVec Ideal S512x8 .f32} {bp : FVec Ideal S1x8 .f32}

/-- The first call's convolution is the specification's. -/
theorem hid_of (h0 : ∀ b n d, hp (ix3 b n d) = Spec.padded A.h b n.val d) (h1 : ∀ k d o, aw (ix3 k d o) = A.convW (ix3 o d k))
    (h2 : ∀ o, cb (ix2 0 o) = A.convB (ix1 o)) (b : Fin 16) (t o : Fin 512) : hid hp aw cb b t o = A.y b t o := by
  unfold hid Spec.Args.y Spec.act
  simp only [h0, h1, h2, Nat.add_comm 1, Nat.add_comm 2]

/-- Its first column holds the weights. -/
theorem score_0_of (h : ∀ b t o, hid hp aw cb b t o = A.y b t o) (h3 : ∀ o, wp (ix2 o 0) = A.outW (ix2 0 o))
    (h4 : bp (ix2 0 0) = A.outB (ix1 0)) (b : Fin 16) (t : Fin 512) : score hp aw cb wp bp b t 0 = A.a b t := by
  unfold score Spec.Args.a Spec.alpha Spec.sig
  simp only [h, h3, h4]

/-- Its next five hold the weights of the longer sequence. -/
theorem score_1_of (h : ∀ b t o, hid hp aw cb b t o = A.y b t o)
    (h3 : ∀ (i : Fin 512) (k : Fin 5), wp (ix2 i ⟨1 + k.val, by omega⟩) = ∑ o : Fin 512, A.out2W (ix2 0 o) * A.upW (ix3 o i k))
    (h4 : ∀ k : Fin 5, bp (ix2 0 ⟨1 + k.val, by omega⟩) = (∑ o : Fin 512, A.upB (ix1 o) * A.out2W (ix2 0 o)) + A.out2B (ix1 0))
    (b : Fin 16) (t : Fin 512) (k : Fin 5) : score hp aw cb wp bp b t ⟨1 + k.val, by omega⟩ = A.f b t k := by
  unfold score Spec.Args.f Spec.fine Spec.sig
  simp only [h, h3, h4]

end Forms

theorem hid_eq (c : Dev nD) (b : Fin 16) (t o : Fin 512) :
    hid (V3 m ρ c main_v0) (V3 m ρ c main_v1) (V3 m ρ c main_v2) b t o = (argsOf m c).y b t o :=
  hid_of (argsOf m c) (V3_v0 m ρ c) (V3_v1 m ρ c) (V3_v2 m ρ c) b t o

theorem score_0 (c : Dev nD) (b : Fin 16) (t : Fin 512) :
    score (V3 m ρ c main_v0) (V3 m ρ c main_v1) (V3 m ρ c main_v2) (V3 m ρ c main_v7) (V3 m ρ c main_v17) b t 0 = (argsOf m c).a b t :=
  score_0_of (argsOf m c) (hid_eq m ρ c) (V3_v7_0 m ρ c) (V3_v17_0 m ρ c) b t

theorem score_1 (c : Dev nD) (b : Fin 16) (t : Fin 512) (k : Fin 5) :
    score (V3 m ρ c main_v0) (V3 m ρ c main_v1) (V3 m ρ c main_v2) (V3 m ρ c main_v7) (V3 m ρ c main_v17) b t ⟨1 + k.val, by omega⟩
      = (argsOf m c).f b t k :=
  score_1_of (argsOf m c) (hid_eq m ρ c) (V3_v7_1 m ρ c) (V3_v17_1 m ρ c) b t k

theorem W4_v18_0 (c : Dev nD) (b : Fin 16) (t : Fin 512) : W4 m ρ c (Proc.devRef .tc main_v18_0) (ix3 b t 0) = (argsOf m c).a b t := by
  rw [show W4 m ρ c (Proc.devRef .tc main_v18_0) = _ from (W4_arr m ρ c 5).trans (arr0_5 (V3 m ρ) c)]
  exact score_0 m ρ c b t

theorem W4_v18_1_0 (c : Dev nD) (b : Fin 16) : W4 m ρ c (Proc.devRef .tc main_v18_1) (ix3 b 0 0) = ∑ t : Fin 512, (argsOf m c).a b t := by
  have e : (∑ t : Fin 512, score (V3 m ρ c main_v0) (V3 m ρ c main_v1) (V3 m ρ c main_v2) (V3 m ρ c main_v7) (V3 m ρ c main_v17) b t 0 : EReal)
      = ∑ t : Fin 512, (argsOf m c).a b t := Finset.sum_congr rfl fun t _ => score_0 m ρ c b t
  refine Eq.trans ?_ e
  exact (congrFun (W4_arr m ρ c 6) (ix3 b 0 0)).trans (arr0_6_0 (V3 m ρ) c b)

theorem W4_v18_1_1 (c : Dev nD) (b : Fin 16) :
    W4 m ρ c (Proc.devRef .tc main_v18_1) (ix3 b 0 1) = ∑ t : Fin 512, ∑ k : Fin 5, (argsOf m c).f b t k := by
  have e : (∑ t : Fin 512, ∑ k : Fin 5, score (V3 m ρ c main_v0) (V3 m ρ c main_v1) (V3 m ρ c main_v2) (V3 m ρ c main_v7) (V3 m ρ c main_v17) b t ⟨1 + k.val, by omega⟩ : EReal)
      = ∑ t : Fin 512, ∑ k : Fin 5, (argsOf m c).f b t k :=
    Finset.sum_congr rfl fun t _ => Finset.sum_congr rfl fun k _ => score_1 m ρ c b t k
  refine Eq.trans ?_ e
  exact (congrFun (W4_arr m ρ c 6) (ix3 b 0 1)).trans (arr0_6_1 (V3 m ρ) c b)

theorem W5_v20 (c : Dev nD) (b : Fin 16) (t : Fin 512) : W5 m ρ c (Proc.devRef .tc main_v20) (ix2 b t) = (argsOf m c).a b t := by
  after_reads_at
  exact W4_v18_0 m ρ c b t

theorem W5_v25 (c : Dev nD) (b : Fin 16) (t : Fin 512) : W5 m ρ c (Proc.devRef .tc main_v25) (ix2 t b) = (argsOf m c).a b t := by
  after_reads_at
  exact W4_v18_0 m ρ c b t

theorem W5_v22 (c : Dev nD) (b : Fin 16) : W5 m ρ c (Proc.devRef .tc main_v22) (ix1 b) = ∑ t : Fin 512, (argsOf m c).a b t := by
  after_reads_at
  exact W4_v18_1_0 m ρ c b

theorem W5_v24 (c : Dev nD) (b : Fin 16) : W5 m ρ c (Proc.devRef .tc main_v24) (ix1 b) = ∑ t : Fin 512, ∑ k : Fin 5, (argsOf m c).f b t k := by
  after_reads_at
  exact W4_v18_1_1 m ρ c b

theorem column_eq (c : Dev nD) (b : Fin 16) : column (V5 m ρ c main_v25) b = (argsOf m c).a b :=
  funext fun t => W5_v25 m ρ c b t

/-! ## The second call's arrays, turned back -/

theorem W7_v27 (c : Dev nD) (b : Fin 16) (t : Fin 512) :
    W7 m ρ c (Proc.devRef .tc main_v27) (ix2 b t) = Spec.level ((argsOf m c).a b) t := by
  after_reads_at
  rw [← column_eq m ρ c b]
  exact (congrFun ((W6_arr m ρ c 1).trans (arr1_1 (V5 m ρ) c)) (ix2 t b)).trans (fires_at _ t b)

theorem W7_v29 (c : Dev nD) (b : Fin 16) (t : Fin 512) :
    W7 m ρ c (Proc.devRef .tc main_v29) (ix3 b 0 t)
      = if Spec.count ((argsOf m c).a b) t < Spec.count ((argsOf m c).a b) 512 then Spec.cur ((argsOf m c).a b) t else 0 := by
  after_reads_at
  rw [← column_eq m ρ c b]
  exact (congrFun ((W6_arr m ρ c 2).trans (arr1_2 (V5 m ρ) c)) (ix2 t b)).trans (cur_at _ t b)

theorem W7_v31 (c : Dev nD) (b : Fin 16) (t : Fin 512) :
    W7 m ρ c (Proc.devRef .tc main_v31) (ix3 b 0 t)
      = if Spec.count ((argsOf m c).a b) (t + 1) < Spec.count ((argsOf m c).a b) 512
        then (if 1 ≤ Spec.level ((argsOf m c).a b) t then Spec.left ((argsOf m c).a b) t else 0) else 0 := by
  after_reads_at
  rw [← column_eq m ρ c b]
  exact (congrFun ((W6_arr m ρ c 3).trans (arr1_3 (V5 m ρ) c)) (ix2 t b)).trans (rem_at _ t b)

theorem W7_v33 (c : Dev nD) (b : Fin 16) (t : Fin 512) :
    W7 m ρ c (Proc.devRef .tc main_v33) (ix3 b 0 t) = ((Spec.count ((argsOf m c).a b) t : ℕ) : EReal) := by
  after_reads_at
  rw [← column_eq m ρ c b]
  exact (congrFun ((W6_arr m ρ c 4).trans (arr1_4 (V5 m ρ) c)) (ix2 t b)).trans (seg_at _ t b)

theorem W7_v35 (c : Dev nD) (b : Fin 16) (t : Fin 512) :
    W7 m ρ c (Proc.devRef .tc main_v35) (ix3 b 0 t) = ((Spec.count ((argsOf m c).a b) (t + 1) : ℕ) : EReal) := by
  after_reads_at
  rw [← column_eq m ρ c b]
  exact (congrFun ((W6_arr m ρ c 5).trans (arr1_5 (V5 m ρ) c)) (ix2 t b)).trans (nextSeg_at _ t b)

/-- A row's two weights for segment `j` are its share, where the segment exists. -/
theorem shares (a : Fin 512 → EReal) (t j : ℕ) :
    (if ((Spec.count a t : ℕ) : EReal) = ((j : ℕ) : EReal) then (if Spec.count a t < Spec.count a 512 then Spec.cur a t else 0) else 0)
      + (if ((Spec.count a (t + 1) : ℕ) : EReal) = ((j : ℕ) : EReal)
          then (if Spec.count a (t + 1) < Spec.count a 512 then (if 1 ≤ Spec.level a t then Spec.left a t else 0) else 0) else 0)
      = if j < Spec.count a 512 then Spec.share a j t else 0 := by
  simp only [Nat.cast_inj]
  by_cases hf : 1 ≤ Spec.level a t
  · rw [Spec.count_succ_of_fire a hf]
    unfold Spec.share
    simp only [hf, if_true, true_and]
    split_ifs <;> first | rfl | omega | simp
  · rw [Spec.count_succ_of_not a hf]
    unfold Spec.share
    simp only [hf, if_false, false_and]
    split_ifs <;> first | rfl | omega | simp

/-- The third call's rows are the specification's segments. -/
theorem gatherRow_of (a : Fin 512 → EReal) {h : FVec Ideal S16x512x512 .f32} {w1 w2 s1 s2 : FVec Ideal S16x1x512 .f32} (b : Fin 16)
    (e1 : ∀ t, w1 (ix3 b 0 t) = if Spec.count a t < Spec.count a 512 then Spec.cur a t else 0)
    (e2 : ∀ t, w2 (ix3 b 0 t) = if Spec.count a (t + 1) < Spec.count a 512 then (if 1 ≤ Spec.level a t then Spec.left a t else 0) else 0)
    (e3 : ∀ t, s1 (ix3 b 0 t) = ((Spec.count a t : ℕ) : EReal)) (e4 : ∀ t, s2 (ix3 b 0 t) = ((Spec.count a (t + 1) : ℕ) : EReal))
    (j d : Fin 512) : gatherRow h w1 w2 s1 s2 b j d = Spec.acoustic a (fun t d => h (ix3 b t d)) j d := by
  unfold gatherRow Spec.acoustic
  simp only [e1, e2, e3, e4, shares]
  by_cases hj : j.val < Spec.count a 512
  · simp only [if_pos hj]
  · simp only [if_neg hj, zero_mul, Finset.sum_const_zero]

/-! ## The results -/

/-- The segments. -/
theorem result_v36 (c : Dev nD) : W8 m ρ c (Proc.devRef .tc main_v36) = (argsOf m c).segments := by
  refine ((W8_arr m ρ c 5).trans (arr2_5 (V7 m ρ) c)).trans (funext fun i => ?_)
  idx_vars i
  refine (gatherRow_of ((argsOf m c).a i0) i0 (W7_v29 m ρ c i0) (W7_v31 m ρ c i0) (W7_v33 m ρ c i0) (W7_v35 m ρ c i0) i1 i2).trans ?_
  rw [show V7 m ρ c main_arg0 = (argsOf m c).hidden from W7_args m ρ c main_arg0 (by decide)]
  rfl

/-- The weights' sum. -/
theorem result_v22 (c : Dev nD) : W8 m ρ c (Proc.devRef .tc main_v22) = (argsOf m c).tokenNum := by
  rw [W8_of m ρ c main_v22 (by decide +kernel), W7_of m ρ c main_v22 (by decide +kernel), W6_of m ρ c main_v22 (by decide +kernel)]
  funext i
  idx_vars i
  exact W5_v22 m ρ c i0

/-- The longer sequence's weights' sum. -/
theorem result_v24 (c : Dev nD) : W8 m ρ c (Proc.devRef .tc main_v24) = (argsOf m c).tokenNum2 := by
  rw [W8_of m ρ c main_v24 (by decide +kernel), W7_of m ρ c main_v24 (by decide +kernel), W6_of m ρ c main_v24 (by decide +kernel)]
  funext i
  idx_vars i
  exact W5_v24 m ρ c i0

/-- The weights. -/
theorem result_v20 (c : Dev nD) : W8 m ρ c (Proc.devRef .tc main_v20) = (argsOf m c).alphas := by
  rw [W8_of m ρ c main_v20 (by decide +kernel), W7_of m ρ c main_v20 (by decide +kernel), W6_of m ρ c main_v20 (by decide +kernel)]
  funext i
  idx_vars i
  exact W5_v20 m ρ c i0 i1

/-- The levels. -/
theorem result_v27 (c : Dev nD) : W8 m ρ c (Proc.devRef .tc main_v27) = (argsOf m c).levels := by
  rw [W8_of m ρ c main_v27 (by decide +kernel)]
  funext i
  idx_vars i
  exact W7_v27 m ρ c i0 i1

end Cert.KernelIdeal.Run
-- ==== Proof.Algebra.lean ====
module

public import proofs.«01_k».proof.Proof.Results
public import proofs.«01_k».proof.Proof.Pre

@[expose] public section

/-! The facts about real numbers that the two programs' forms of the weights differ by. -/

noncomputable section

namespace Cert.Spec

open Idealize.ShloMosaic
open Cert.Pre_real_and_unmasked (Real)

/-- The logistic function is nowhere negative. -/
theorem sig_nonneg (z : EReal) : 0 ≤ sig z := by
  have he : 0 ≤ Ideal.exp (-z) := by
    induction -z using EReal.rec with
    | bot => exact le_rfl
    | top => exact le_top
    | coe r => exact EReal.coe_nonneg.2 (Real.exp_pos r).le
  have hp : (0 : EReal) < 1 + Ideal.exp (-z) := lt_of_lt_of_le zero_lt_one (le_add_of_nonneg_right he)
  unfold sig Ideal.logistic Ideal.div
  rw [if_neg hp.ne', one_mul]
  exact EReal.inv_nonneg_of_nonneg hp.le

/-- Cutting it off at zero changes nothing. -/
theorem max_sig (z : EReal) : max (sig z) 0 = sig z := max_eq_left (sig_nonneg z)

/-- A real number of the extended line, as one of the line itself. -/
theorem exists_coe {x : EReal} (h : Real x) : ∃ r : ℝ, x = r := ⟨x.toReal, (EReal.coe_toReal h.1 h.2).symm⟩

theorem real_coe (r : ℝ) : Real (r : EReal) := ⟨EReal.coe_ne_top r, EReal.coe_ne_bot r⟩

theorem real_zero : Real 0 := real_coe 0

theorem real_add {x y : EReal} (hx : Real x) (hy : Real y) : Real (x + y) := by
  obtain ⟨r, rfl⟩ := exists_coe hx
  obtain ⟨s, rfl⟩ := exists_coe hy
  exact real_coe (r + s)

theorem real_mul {x y : EReal} (hx : Real x) (hy : Real y) : Real (x * y) := by
  obtain ⟨r, rfl⟩ := exists_coe hx
  obtain ⟨s, rfl⟩ := exists_coe hy
  rw [← EReal.coe_mul]
  exact real_coe (r * s)

theorem real_max {x y : EReal} (hx : Real x) (hy : Real y) : Real (max x y) := by
  rcases max_choice x y with h | h <;> rw [h] <;> assumption

theorem real_sum {ι : Type} (s : Finset ι) {f : ι → EReal} (hf : ∀ i, Real (f i)) : Real (∑ i ∈ s, f i) := by
  classical
  induction s using Finset.induction_on with
  | empty => exact real_zero
  | insert a s ha ih => rw [Finset.sum_insert ha]; exact real_add (hf a) ih

/-- A sum of real numbers, in the line. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A factor goes into a sum when it and one of the terms are real. -/
theorem add_mul_real {x c : EReal} (u : EReal) (hx : Real x) (hc : Real c) : (x + u) * c = x * c + u * c := by
  obtain ⟨r, rfl⟩ := exists_coe hx
  obtain ⟨s, rfl⟩ := exists_coe hc
  rw [← EReal.coe_mul]
  induction u using EReal.rec with
  | coe v => rw [← EReal.coe_add, ← EReal.coe_mul, ← EReal.coe_mul, ← EReal.coe_add, add_mul]
  | top =>
    rw [EReal.coe_add_top]
    rcases lt_trichotomy s 0 with h | h | h
    · rw [EReal.top_mul_coe_of_neg h, EReal.add_bot]
    · subst h; simp
    · rw [EReal.top_mul_coe_of_pos h, EReal.coe_add_top]
  | bot =>
    rw [EReal.add_bot]
    rcases lt_trichotomy s 0 with h | h | h
    · rw [EReal.bot_mul_coe_of_neg h, EReal.coe_add_top]
    · subst h; simp
    · rw [EReal.bot_mul_coe_of_pos h, EReal.add_bot]

/-- The spreading, its bias and the projection, one after the other: the projection goes into the spreading. -/
theorem spread {y : Fin 512 → EReal} {w : Fin 512 → Fin 512 → EReal} {c : Fin 512 → EReal} (u : Fin 512 → EReal) (z : EReal)
    (hy : ∀ i, Real (y i)) (hw : ∀ o i, Real (w o i)) (hc : ∀ o, Real (c o)) :
    (∑ o, ((∑ i, w o i * y i) + u o) * c o) + z = (∑ i, y i * ∑ o, c o * w o i) + ((∑ o, u o * c o) + z) := by
  have hs : ∀ o, Real (∑ i, w o i * y i) := fun o => real_sum _ fun i => real_mul (hw o i) (hy i)
  simp only [fun o => add_mul_real (u o) (hs o) (hc o)]
  rw [Finset.sum_add_distrib, add_assoc]
  congr 1
  choose y' ey using fun i => exists_coe (hy i)
  choose w' ew using fun o i => exists_coe (hw o i)
  choose c' ec using fun o => exists_coe (hc o)
  simp only [ey, ew, ec, ← EReal.coe_mul, ← coe_sum]
  congr 1
  simp only [Finset.sum_mul, Finset.mul_sum]
  rw [Finset.sum_comm]
  exact Finset.sum_congr rfl fun i _ => Finset.sum_congr rfl fun o _ => by ring

/-- A sum over the longer sequence, row by row. -/
theorem sum_long (g : Fin 512 → Fin 5 → EReal) :
    (∑ x : Fin 2560, g ⟨x.val / 5, by omega⟩ ⟨x.val % 5, by omega⟩) = ∑ t : Fin 512, ∑ k : Fin 5, g t k := by
  rw [← Finset.sum_product']
  exact Equiv.sum_comp (finProdFinEquiv (m := 512) (n := 5)).symm fun p => g p.1 p.2

namespace Args

variable (A : Args)

/-- The convolved rows are real when the rows, the weights and the bias are. -/
theorem real_y (h0 : ∀ i, Real (A.hidden i)) (h1 : ∀ i, Real (A.convW i)) (h2 : ∀ i, Real (A.convB i)) (b : Fin 16) (t o : Fin 512) :
    Real (A.y b t o) := by
  have hp : ∀ n d, Real (padded A.h b n d) := fun n d => by
    unfold padded
    split
    · exact h0 _
    · exact real_zero
  exact real_max (real_add (real_add (real_add (real_sum _ fun d => real_mul (hp _ d) (h1 _)) (real_sum _ fun d => real_mul (hp _ d) (h1 _)))
    (real_sum _ fun d => real_mul (hp _ d) (h1 _))) (h2 _)) real_zero

/-- The longer sequence's weights, the spreading done first. -/
theorem f_eq (h0 : ∀ i, Real (A.hidden i)) (h1 : ∀ i, Real (A.convW i)) (h2 : ∀ i, Real (A.convB i)) (h3 : ∀ i, Real (A.upW i))
    (h4 : ∀ i, Real (A.out2W i)) (b : Fin 16) (t : Fin 512) (k : Fin 5) :
    sig ((∑ o, ((∑ i, A.upW (ix3 o i k) * A.y b t i) + A.upB (ix1 o)) * A.out2W (ix2 0 o)) + A.out2B (ix1 0)) = A.f b t k :=
  congrArg sig (spread (fun o => A.upB (ix1 o)) (A.out2B (ix1 0)) (A.real_y h0 h1 h2 b t) (fun o i => h3 (ix3 o i k)) fun o => h4 (ix2 0 o))

end Args

end Cert.Spec
-- ==== Proof.Entry.lean ====
module

public import proofs.«01_k».proof.Proof.Reference
public import proofs.«01_k».proof.Proof.Algebra
public import Idealize.ShloMosaic.Lib.Pointwise
public import Idealize.ShloMosaic.Lib.StableHlo.ReadAt

@[expose] public section

set_option maxRecDepth 16384

/-! What the reference has computed when its loop begins. -/

noncomputable section

namespace Cert.ReferenceIdeal.Value

open Idealize.ShloMosaic Idealize.ShloMosaic.TcCoe Idealize.SL.Sem
open Idealize.ShloMosaic.StableHlo

variable (m : (ℓ : Loc nD τ sig) → Buf (Elt Ideal) ℓ)

/-- The argument arrays a device starts with. -/
def argsOf (c : Dev nD) : Spec.Args where
  hidden := m ((c.tc : Thread nD τ).loc main_arg0)
  convW := m ((c.tc : Thread nD τ).loc main_arg2)
  convB := m ((c.tc : Thread nD τ).loc main_arg3)
  outW := m ((c.tc : Thread nD τ).loc main_arg4)
  outB := m ((c.tc : Thread nD τ).loc main_arg5)
  upW := m ((c.tc : Thread nD τ).loc main_arg6)
  upB := m ((c.tc : Thread nD τ).loc main_arg7)
  out2W := m ((c.tc : Thread nD τ).loc main_arg8)
  out2B := m ((c.tc : Thread nD τ).loc main_arg9)

theorem zero_word : FloatOps.sitofp (F := Ideal) .f32 (0#32) = (0 : EReal) := by
  change (((0#32 : BitVec 32).toInt : ℝ) : EReal) = 0
  simp

section Pads

variable (x : Fin 16 → Fin 512 → Fin 512 → EReal) (b : Fin 16) (t d : Fin 512)

theorem pad0 : Spec.padded x b t.val d = if h : 1 ≤ t.val ∧ t.val - 1 < 512 then x b ⟨t.val - 1, h.2⟩ d else FloatOps.sitofp (F := Ideal) .f32 (0#32) := by
  rw [Spec.padded, zero_word]
  by_cases h : 1 ≤ t.val
  · rw [dif_pos ⟨h, by omega⟩, dif_pos ⟨h, by omega⟩]
  · rw [dif_neg (fun e => h e.1), dif_neg (fun e => h e.1)]

theorem pad1 : Spec.padded x b (t.val + 1) d = x b t d := by
  rw [Spec.padded, dif_pos ⟨by omega, by omega⟩]
  rfl

theorem pad2 : Spec.padded x b (t.val + 2) d
    = if h : 1 ≤ 2 + t.val ∧ 2 + t.val - 1 < 512 then x b ⟨2 + t.val - 1, h.2⟩ d else FloatOps.sitofp (F := Ideal) .f32 (0#32) := by
  rw [Spec.padded, zero_word]
  by_cases h : t.val < 511
  · rw [dif_pos ⟨by omega, by omega⟩, dif_pos ⟨by omega, by omega⟩]
    exact congrArg (fun n => x b n d) (Fin.ext (by simp only; omega))
  · rw [dif_neg (fun e => h (by omega)), dif_neg (fun e => h (by omega))]

end Pads

/-- The convolution. -/
theorem entry_v20 (c : Dev nD) (b : Fin 16) (t o : Fin 512) : entryContents preI m c (Proc.devRef .tc main_v20) (ix3 b t o) = (argsOf m c).y b t o := by
  simp only [entryContents, afterL_cons, afterL_nil]
  after_reads_at
  unfold Spec.Args.y Spec.act
  simp only [pad0, pad1, pad2]
  rfl

/-- The weights, before what leaves them as they are. -/
theorem entry_v70_raw (c : Dev nD) (b : Fin 16) (t : Fin 512) :
    entryContents preI m c (Proc.devRef .tc main_v70) (ix2 b t)
      = (max ((argsOf m c).a b t) 0 : EReal) * (m ((c.tc : Thread nD τ).loc main_arg1) : FVec Ideal S16x1x512 .f32) (ix3 b 0 t) := by
  simp only [entryContents, afterL_cons, afterL_nil]
  after_reads_at
  unfold Spec.Args.a Spec.alpha Spec.sig Spec.Args.y Spec.act
  simp only [pad0, pad1, pad2]
  rfl

theorem entry_v71_raw (c : Dev nD) (b : Fin 16) :
    entryContents preI m c (Proc.devRef .tc main_v71) (ix1 b)
      = ∑ t : Fin 512, (max ((argsOf m c).a b t) 0 : EReal) * (m ((c.tc : Thread nD τ).loc main_arg1) : FVec Ideal S16x1x512 .f32) (ix3 b 0 t) := by
  simp only [entryContents, afterL_cons, afterL_nil]
  after_reads_at
  unfold Spec.Args.a Spec.alpha Spec.sig Spec.Args.y Spec.act
  simp only [pad0, pad1, pad2]
  rfl

theorem entry_v51_raw (c : Dev nD) (b : Fin 16) :
    entryContents preI m c (Proc.devRef .tc main_v51) (ix1 b)
      = ∑ x : Fin 2560, (max (Spec.sig ((∑ o, ((∑ i, (argsOf m c).upW (ix3 o i ⟨x.val % 5, by omega⟩) * (argsOf m c).y b ⟨x.val / 5, by omega⟩ i)
          + (argsOf m c).upB (ix1 o)) * (argsOf m c).out2W (ix2 0 o)) + (argsOf m c).out2B (ix1 0))) 0 : EReal)
          * (m ((c.tc : Thread nD τ).loc main_arg1) : FVec Ideal S16x1x512 .f32) (ix3 b 0 ⟨x.val / 5, by omega⟩) := by
  simp only [entryContents, afterL_cons, afterL_nil]
  after_reads_at
  unfold Spec.sig Spec.Args.y Spec.act
  refine Finset.sum_congr rfl fun x _ => ?_
  have hx : x.val / 5 < 512 := by omega
  have p0 := fun d => pad0 (argsOf m c).h b ⟨x.val / 5, hx⟩ d
  have p1 := fun d => pad1 (argsOf m c).h b ⟨x.val / 5, hx⟩ d
  have p2 := fun d => pad2 (argsOf m c).h b ⟨x.val / 5, hx⟩ d
  dsimp only at p0 p1 p2
  simp only [p0, p1, p2, dif_pos hx]
  rfl

/-- Cutting a weight off at zero and multiplying it by one leaves it. -/
theorem kept {z w : EReal} (hw : w = 1) : max (Spec.sig z) 0 * w = Spec.sig z := by
  rw [hw, mul_one, Spec.max_sig]

/-- The mask of a device. -/
def maskOf (c : Dev nD) : FVec Ideal S16x1x512 .f32 := m ((c.tc : Thread nD τ).loc main_arg1)

section Clean

variable (c : Dev nD) (hmask : ∀ i, maskOf m c i = (1 : EReal))

include hmask

/-- The weights. -/
theorem entry_v70 (b : Fin 16) (t : Fin 512) : entryContents preI m c (Proc.devRef .tc main_v70) (ix2 b t) = (argsOf m c).a b t := by
  exact (entry_v70_raw m c b t).trans (kept (hmask _))

/-- Their sum. -/
theorem entry_v71 (b : Fin 16) : entryContents preI m c (Proc.devRef .tc main_v71) (ix1 b) = (∑ t : Fin 512, (argsOf m c).a b t : EReal) := by
  have e : (∑ t : Fin 512, (max ((argsOf m c).a b t) 0 : EReal) * maskOf m c (ix3 b 0 t))
      = ∑ t : Fin 512, (argsOf m c).a b t := Finset.sum_congr rfl fun t _ => kept (hmask _)
  exact (entry_v71_raw m c b).trans e

/-- The longer sequence's weights' sum. -/
theorem entry_v51 (h0 : ∀ i, Pre_real_and_unmasked.Real ((argsOf m c).hidden i)) (h1 : ∀ i, Pre_real_and_unmasked.Real ((argsOf m c).convW i))
    (h2 : ∀ i, Pre_real_and_unmasked.Real ((argsOf m c).convB i)) (h3 : ∀ i, Pre_real_and_unmasked.Real ((argsOf m c).upW i))
    (h4 : ∀ i, Pre_real_and_unmasked.Real ((argsOf m c).out2W i)) (b : Fin 16) :
    entryContents preI m c (Proc.devRef .tc main_v51) (ix1 b) = (∑ t : Fin 512, ∑ k : Fin 5, (argsOf m c).f b t k : EReal) := by
  refine (entry_v51_raw m c b).trans ?_
  refine Eq.trans ?_ (Spec.sum_long fun t k => (argsOf m c).f b t k)
  exact Finset.sum_congr (M := EReal) rfl fun x _ => (kept (hmask _)).trans ((argsOf m c).f_eq h0 h1 h2 h3 h4 b _ _)

end Clean

/-! ## The carried buffers when the loop begins -/

theorem entry_v78_0 (c : Dev nD) (b : Fin 16) (t : Fin 512) :
    entryContents preI m c (Proc.devRef .tc main_v78_0) (ix2 t b) = entryContents preI m c (Proc.devRef .tc main_v70) (ix2 b t) := by
  simp only [entryContents, afterL_cons, afterL_nil]
  after_reads_at
  simp only [id_eq]
  pointwise

theorem entry_v78_1 (c : Dev nD) (b : Fin 16) (t d : Fin 512) :
    entryContents preI m c (Proc.devRef .tc main_v78_1) (ix3 t b d) = (argsOf m c).h b t d := by
  simp only [entryContents, afterL_cons, afterL_nil]
  after_reads_at
  simp only [id_eq]
  pointwise
  rfl

theorem entry_v78_3 (c : Dev nD) (b : Fin 16) : entryContents preI m c (Proc.devRef .tc main_v78_3) (ix1 b) = (0 : EReal) := by
  simp only [entryContents, afterL_cons, afterL_nil]
  after_reads_at
  simp only [id_eq]
  pointwise

theorem entry_v78_4 (c : Dev nD) (b : Fin 16) (d : Fin 512) : entryContents preI m c (Proc.devRef .tc main_v78_4) (ix2 b d) = (0 : EReal) := by
  simp only [entryContents, afterL_cons, afterL_nil]
  after_reads_at
  simp only [id_eq]
  pointwise

end Cert.ReferenceIdeal.Value
-- ==== Proof.Loop.lean ====
module

public import proofs.«01_k».proof.Proof.Entry
public import Idealize.ShloMosaic.Lib.DynamicIndex
public import Idealize.ShloMosaic.Lib.WordCmp

@[expose] public section

set_option maxRecDepth 16384

/-! What the reference's loop holds before each of its trips. -/

noncomputable section

namespace Cert.ReferenceIdeal.Value

open Cert.ReferenceIdeal Cert.ReferenceIdeal.Gen
open Idealize.ShloMosaic Idealize.ShloMosaic.TcCoe Idealize.SL.Sem
open Idealize.ShloMosaic.StableHlo

/-! ## Reading and writing one row -/

section Rows

variable {α : Type} (k : ℕ) (hk : k < 512)

/-- The rows' starts. -/
def Starts2 (n : Fin 2 → Int) : Prop := n 0 = k ∧ n 1 = 0
def Starts3 (n : Fin 3 → Int) : Prop := n 0 = k ∧ n 1 = 0 ∧ n 2 = 0

include hk

theorem read2 (x : FVec Ideal S512x16 .f32) (n : Fin 2 → Int) (hn : Starts2 k n) (h : S512x16.Slices (fun _ => 0) S1x16)
    (hc : S1x16.ShapeCasts S16) (b : Fin 16) :
    shapeCast S16 (Host.dynamicSlice S1x16 x n h) hc (ix1 b) = x (ix2 ⟨k, hk⟩ b) := by
  rw [Idealize.ShloMosaic.WordCmp.dynamicSlice_eq_extract S1x16 x n h ![k, 0] ⟨rfl, fun a => by fin_cases a <;> simp <;> omega⟩
    (fun a => by fin_cases a <;> simp [hn.1, hn.2])]
  pointwise

theorem read3 (x : FVec Ideal S512x16x512 .f32) (n : Fin 3 → Int) (hn : Starts3 k n) (h : S512x16x512.Slices (fun _ => 0) S1x16x512)
    (hc : S1x16x512.ShapeCasts S16x512) (b : Fin 16) (d : Fin 512) :
    shapeCast S16x512 (Host.dynamicSlice S1x16x512 x n h) hc (ix2 b d) = x (ix3 ⟨k, hk⟩ b d) := by
  rw [Idealize.ShloMosaic.WordCmp.dynamicSlice_eq_extract S1x16x512 x n h ![k, 0, 0] ⟨rfl, fun a => by fin_cases a <;> simp <;> omega⟩
    (fun a => by fin_cases a <;> simp [hn.1, hn.2])]
  pointwise

theorem write2 (x : FVec Ideal S512x16 .f32) (v : FVec Ideal S16 .f32) (n : Fin 2 → Int) (hn : Starts2 k n)
    (h : S512x16.Slices (fun _ => 0) S1x16) (hb : S16.BroadcastsInDim S1x16 ![1]) (t : Fin 512) (b : Fin 16) :
    Host.dynamicUpdateSlice x (broadcastInDim S1x16 ![1] hb v) n h (ix2 t b) = if t.val = k then v (ix1 b) else x (ix2 t b) := by
  rw [Idealize.ShloMosaic.WordCmp.dynamicUpdateSlice_eq_update x _ n h ![k, 0] ⟨rfl, fun a => by fin_cases a <;> simp <;> omega⟩
    (fun a => by fin_cases a <;> simp [hn.1, hn.2])]
  pointwise
  by_cases e : t.val = k
  · rw [dif_pos ⟨by omega, by omega⟩, if_pos e]
  · rw [dif_neg (by omega), if_neg e]

theorem write3 (x : FVec Ideal S512x16x512 .f32) (v : FVec Ideal S16x512 .f32) (n : Fin 3 → Int) (hn : Starts3 k n)
    (h : S512x16x512.Slices (fun _ => 0) S1x16x512) (hb : S16x512.BroadcastsInDim S1x16x512 ![1, 2]) (t : Fin 512) (b : Fin 16) (d : Fin 512) :
    Host.dynamicUpdateSlice x (broadcastInDim S1x16x512 ![1, 2] hb v) n h (ix3 t b d) = if t.val = k then v (ix2 b d) else x (ix3 t b d) := by
  rw [Idealize.ShloMosaic.WordCmp.dynamicUpdateSlice_eq_update x _ n h ![k, 0, 0] ⟨rfl, fun a => by fin_cases a <;> simp <;> omega⟩
    (fun a => by fin_cases a <;> simp [hn.1, hn.2])]
  pointwise
  by_cases e : t.val = k
  · rw [dif_pos ⟨by omega, by omega⟩, if_pos e]
  · rw [dif_neg (by omega), if_neg e]

end Rows

/-! ## One trip's arithmetic -/

section Step

variable (g r : FVec Ideal S16 .f32) (f x : FVec Ideal S16x512 .f32) (b : Fin 16) (d : Fin 512)

/-- Ones. -/
abbrev ones : FVec Ideal S16 .f32 := broadcastInDim S16 ![] bcast_S_S16 (constant S_ .f32 0x3F800000#32)

/-- The levels, whether they fire, and the weights of the rows in the segments they end. -/
abbrev levels : FVec Ideal S16 .f32 := addf g r
abbrev fires : IVec S16 1 := cmpf .oge (levels g r) ones
abbrev curs : FVec Ideal S16 .f32 := select (fires g r) (subf ones g) r
abbrev segs : FVec Ideal S16x512 .f32 :=
  addf f (mulf (broadcastInDim S16x512 ![0, 1] bcast_S16x1_S16x512_0_1 (broadcastInDim S16x1 ![0] bcast_S16_S16x1_0 (curs g r))) x)

theorem curs_at : curs g r (ix1 b) = if (1 : EReal) ≤ g (ix1 b) + r (ix1 b) then (1 : EReal) - g (ix1 b) else r (ix1 b) := by
  pointwise

theorem segs_at : segs g r f x (ix2 b d) = (f (ix2 b d) + (if (1 : EReal) ≤ g (ix1 b) + r (ix1 b) then (1 : EReal) - g (ix1 b) else r (ix1 b)) * x (ix2 b d) : EReal) := by
  pointwise

theorem next_sum : select (fires g r) (subf (levels g r) ones) (levels g r) (ix1 b)
    = (if (1 : EReal) ≤ g (ix1 b) + r (ix1 b) then (g (ix1 b) + r (ix1 b) : EReal) - 1 else g (ix1 b) + r (ix1 b) : EReal) := by
  pointwise

theorem next_frame : select (broadcastInDim S16x512 ![0, 1] bcast_S16x1_S16x512_0_1 (broadcastInDim S16x1 ![0] bcast_S16_S16x1_0 (fires g r)))
      (mulf (broadcastInDim S16x512 ![0, 1] bcast_S16x1_S16x512_0_1 (broadcastInDim S16x1 ![0] bcast_S16_S16x1_0 (subf r (curs g r)))) x)
      (segs g r f x) (ix2 b d)
    = (if (1 : EReal) ≤ g (ix1 b) + r (ix1 b)
      then ((r (ix1 b) : EReal) - (if (1 : EReal) ≤ g (ix1 b) + r (ix1 b) then (1 : EReal) - g (ix1 b) else r (ix1 b))) * x (ix2 b d)
      else f (ix2 b d) + (if (1 : EReal) ≤ g (ix1 b) + r (ix1 b) then (1 : EReal) - g (ix1 b) else r (ix1 b)) * x (ix2 b d) : EReal) := by
  pointwise

end Step

/-! ## The carried buffers before a trip -/

/-- What the carried buffers hold before trip `k`. -/
structure Holds (X : Valuation τ sig (Elt Ideal)) (A : Fin 16 → Fin 512 → EReal) (H : Fin 16 → Fin 512 → Fin 512 → EReal) (k : ℕ) : Prop where
  alphas : ∀ b t, X (Proc.devRef .tc main_v78_0) (ix2 t b) = A b t
  hidden : ∀ b t d, X (Proc.devRef .tc main_v78_1) (ix3 t b d) = H b t d
  ctr : X (Proc.devRef .tc main_v78_2) = fun _ => Scf.iv 0#32 1#32 k
  sum : ∀ b, X (Proc.devRef .tc main_v78_3) (ix1 b) = Spec.gathered (A b) k
  frame : ∀ b d, X (Proc.devRef .tc main_v78_4) (ix2 b d) = Spec.frame (A b) (H b) d k
  levels : ∀ b (t : Fin 512), t.val < k → X (Proc.devRef .tc main_v78_5) (ix2 t b) = Spec.level (A b) t
  segments : ∀ b (t d : Fin 512), t.val < k → X (Proc.devRef .tc main_v78_6) (ix3 t b d) = Spec.segment (A b) (H b) t d

section Trip

variable {X : Valuation τ sig (Elt Ideal)} {A : Fin 16 → Fin 512 → EReal} {H : Fin 16 → Fin 512 → Fin 512 → EReal} {k : ℕ}
  (hX : Holds X A H k) (hk : k < 512)

include hX hk

theorem word_at : (Scf.iv 0#32 1#32 k).toInt = (k : Int) := by
  have e : Scf.iv 0#32 1#32 k = BitVec.ofNat 32 k := by simp [Scf.iv]
  rw [e, toInt_ofNat_of_lt (by omega)]

theorem starts2 : Starts2 k (fun j => (((![X (Proc.devRef .tc main_v78_2), constantI S_ 32 0#32] : Fin 2 → (⟨S_, .i32⟩ : BufTy).Contents (Elt Ideal))) j (Shape.Idx.first h_S_)).toInt) := by
  refine ⟨?_, rfl⟩
  exact (congrArg (fun v : IVec S_ 32 => (v (Shape.Idx.first h_S_)).toInt) hX.ctr).trans (word_at hX hk)

theorem starts3 : Starts3 k (fun j => (((![X (Proc.devRef .tc main_v78_2), constantI S_ 32 0#32, constantI S_ 32 0#32] : Fin 3 → (⟨S_, .i32⟩ : BufTy).Contents (Elt Ideal))) j (Shape.Idx.first h_S_)).toInt) := by
  refine ⟨?_, rfl, rfl⟩
  exact (congrArg (fun v : IVec S_ 32 => (v (Shape.Idx.first h_S_)).toInt) hX.ctr).trans (word_at hX hk)

theorem row_at (b : Fin 16) : res_main_while0b_v103 X (ix1 b) = Spec.wt (A b) k := by
  refine (read2 k hk _ _ (starts2 hX hk) _ _ b).trans ((hX.alphas b ⟨k, hk⟩).trans ?_)
  rw [Spec.wt, dif_pos hk]

theorem hidden_at (b : Fin 16) (d : Fin 512) : res_main_while0b_v104 X (ix2 b d) = Spec.row (H b) k d := by
  refine (read3 k hk _ _ (starts3 hX hk) _ _ b d).trans ((hX.hidden b ⟨k, hk⟩ d).trans ?_)
  rw [Spec.row, dif_pos hk]

theorem level_at (b : Fin 16) : res_main_while0b_v107 X (ix1 b) = Spec.level (A b) k :=
  congrArg₂ (fun y z : EReal => y + z) (hX.sum b) (row_at hX hk b)

theorem seg_at (b : Fin 16) (d : Fin 512) : res_main_while0b_v118 X (ix2 b d) = Spec.segment (A b) (H b) k d := by
  refine (segs_at (X (Proc.devRef .tc main_v78_3)) (res_main_while0b_v103 X) (X (Proc.devRef .tc main_v78_4)) (res_main_while0b_v104 X) b d).trans ?_
  rw [hX.sum b, row_at hX hk b, hX.frame b d, hidden_at hX hk b d]
  rfl

/-- One trip leads to the next. -/
theorem holds_step : Holds (STEP X) A H (k + 1) where
  alphas b t := by rw [STEP_main_v78_0]; exact hX.alphas b t
  hidden b t d := by rw [STEP_main_v78_1]; exact hX.hidden b t d
  ctr := by
    rw [STEP_main_v78_2]
    exact (congrArg (fun v : IVec S_ 32 => addi v (constantI S_ 32 1#32)) hX.ctr).trans (funext fun _ => (Scf.iv_succ _ _ _).symm)
  sum b := by
    rw [STEP_main_v78_3]
    refine (next_sum (X (Proc.devRef .tc main_v78_3)) (res_main_while0b_v103 X) b).trans ?_
    rw [hX.sum b, row_at hX hk b]
    exact (Spec.gathered_succ (A b) k).symm
  frame b d := by
    rw [STEP_main_v78_4]
    refine (next_frame (X (Proc.devRef .tc main_v78_3)) (res_main_while0b_v103 X) (X (Proc.devRef .tc main_v78_4)) (res_main_while0b_v104 X) b d).trans ?_
    rw [hX.sum b, row_at hX hk b, hX.frame b d, hidden_at hX hk b d]
    rfl
  levels b t ht := by
    rw [STEP_main_v78_5]
    refine (write2 k hk (X (Proc.devRef .tc main_v78_5)) (res_main_while0b_v107 X) _ (starts2 hX hk) updateFits_S512x16_S1x16 bcast_S16_S1x16_1 t b).trans ?_
    by_cases e : t.val = k
    · rw [if_pos e, level_at hX hk b, e]
    · rw [if_neg e]; exact hX.levels b t (by omega)
  segments b t d ht := by
    rw [STEP_main_v78_6]
    refine (write3 k hk (X (Proc.devRef .tc main_v78_6)) (res_main_while0b_v118 X) _ (starts3 hX hk) updateFits_S512x16x512_S1x16x512 bcast_S16x512_S1x16x512_1_2 t b d).trans ?_
    by_cases e : t.val = k
    · rw [if_pos e, seg_at hX hk b d, e]
    · rw [if_neg e]; exact hX.segments b t d (by omega)

end Trip

/-- What holds of a trip's contents holds of any others with the same carried buffers. -/
theorem Holds.congr {X Y : Valuation τ sig (Elt Ideal)} {A : Fin 16 → Fin 512 → EReal} {H : Fin 16 → Fin 512 → Fin 512 → EReal} {k : ℕ}
    (h : Agree X Y) (hY : Holds Y A H k) : Holds X A H k where
  alphas b t := by rw [h main_v78_0 (by decide)]; exact hY.alphas b t
  hidden b t d := by rw [h main_v78_1 (by decide)]; exact hY.hidden b t d
  ctr := by rw [h main_v78_2 (by decide)]; exact hY.ctr
  sum b := by rw [h main_v78_3 (by decide)]; exact hY.sum b
  frame b d := by rw [h main_v78_4 (by decide)]; exact hY.frame b d
  levels b t ht := by rw [h main_v78_5 (by decide)]; exact hY.levels b t ht
  segments b t d ht := by rw [h main_v78_6 (by decide)]; exact hY.segments b t d ht

variable (m : (ℓ : Loc nD τ sig) → Buf (Elt Ideal) ℓ)

/-- Before every trip, and after the last. -/
theorem holds_at (c : Dev nD) (hmask : ∀ i, maskOf m c i = (1 : EReal)) :
    ∀ k, k ≤ 512 → Holds (atK m k c) (argsOf m c).a (argsOf m c).h k
  | 0, _ =>
    { alphas := fun b t => (entry_v78_0 m c b t).trans (entry_v70 m c hmask b t)
      hidden := entry_v78_1 m c
      ctr := atK_ctr m c 0
      sum := entry_v78_3 m c
      frame := entry_v78_4 m c
      levels := fun _ _ h => absurd h (Nat.not_lt_zero _)
      segments := fun _ _ _ h => absurd h (Nat.not_lt_zero _) }
  | k + 1, hk => (holds_step (holds_at c hmask k (by omega)) (by omega)).congr (trip_agree (atK m k c))

end Cert.ReferenceIdeal.Value
-- ==== Proof.Order.lean ====
/-
  The stable sort of the rows by a flag: the flagged rows come first, in order, then the others.
-/
module

public import Idealize.ShloMosaic.Lib.SortFacts
public import proofs.«01_k».proof.Proof.Spec

@[expose] public section

noncomputable section

namespace Cert.Spec

open Idealize.ShloMosaic

section Flags

variable {ι : Type} (f : ι → Bool)

/-- A row sorts before another when it is flagged and the other is not. -/
def before (a b : ι) : Bool := f a && !f b

/-- A flagged row goes to the front. -/
theorem insert_flagged {a : ι} (ha : f a = true) (l : List ι) : insertBefore (before f) a l = a :: l := by
  cases l with
  | nil => rfl
  | cons b l => rw [insertBefore, if_neg]; simp [before, ha]

/-- Any other row goes behind the flagged ones. -/
theorem insert_plain {a : ι} (ha : f a = false) (p q : List ι) (hp : ∀ b ∈ p, f b = true) (hq : ∀ b ∈ q, f b = false) :
    insertBefore (before f) a (p ++ q) = p ++ a :: q := by
  induction p with
  | nil =>
    cases q with
    | nil => rfl
    | cons b q => rw [List.nil_append, List.nil_append, insertBefore, if_neg]; simp [before, hq b (List.mem_cons_self ..)]
  | cons b p ih =>
    rw [List.cons_append, insertBefore, if_pos (by simp [before, ha, hp b (List.mem_cons_self ..)]),
      ih fun c hc => hp c (List.mem_cons_of_mem _ hc)]
    rfl

/-- The stable sort puts the flagged rows first and keeps each kind in order. -/
theorem sort_flags (l : List ι) : stableSort (before f) l = l.filter f ++ l.filter (fun b => !f b) := by
  induction l with
  | nil => rfl
  | cons a l ih =>
    rw [stableSort, ih]
    cases ha : f a with
    | true => rw [insert_flagged f ha, List.filter_cons_of_pos ha, List.filter_cons_of_neg (by simp [ha])]; rfl
    | false =>
      rw [insert_plain f ha _ _ (fun b hb => (List.mem_filter.1 hb).2) (fun b hb => by simpa using (List.mem_filter.1 hb).2),
        List.filter_cons_of_neg (by simp [ha]), List.filter_cons_of_pos (by simp [ha])]

end Flags

section Rows

variable (a : Fin 512 → EReal)

open Classical in
/-- Whether the level reaches one at row `k`. -/
def fires (k : ℕ) : Bool := decide (1 ≤ level a k)

/-- The flagged rows below `n` are as many as the count says, and the `j`-th of them is where the count is `j`. -/
theorem flagged (n : ℕ) : ((List.range n).filter (fires a)).length = count a n ∧
    ∀ j (hj : j < ((List.range n).filter (fires a)).length),
      1 ≤ level a (((List.range n).filter (fires a))[j]) ∧ count a (((List.range n).filter (fires a))[j]) = j := by
  induction n with
  | zero => exact ⟨rfl, fun j hj => absurd hj (Nat.not_lt_zero j)⟩
  | succ n ih =>
    rw [List.range_succ, List.filter_append]
    by_cases hn : 1 ≤ level a n
    · have hs : [n].filter (fires a) = [n] := List.filter_cons_of_pos (by simp [fires, hn])
      rw [hs, count_succ_of_fire a hn]
      refine ⟨by rw [List.length_append, ih.1]; rfl, fun j hj => ?_⟩
      rw [List.length_append, List.length_singleton] at hj
      rcases Nat.lt_or_ge j ((List.range n).filter (fires a)).length with h | h
      · rw [List.getElem_append_left h]; exact ih.2 j h
      · have e : j = ((List.range n).filter (fires a)).length := by omega
        subst e
        rw [List.getElem_append_right (Nat.le_refl _)]
        simpa using ⟨hn, ih.1.symm⟩
    · have hs : [n].filter (fires a) = [] := List.filter_cons_of_neg (by simp [fires, hn])
      rw [hs, count_succ_of_not a hn, List.append_nil]
      exact ih

/-- The `j`-th row in the sorted order is the row that finishes segment `j`, or finishes none when there is none. -/
theorem order (j : Fin 512) (k : Fin 512) (hk : k = sortedFrom (before fun t : Fin 512 => fires a t) j) :
    (1 ≤ level a k ∧ count a k = j) ∨ (¬ 1 ≤ level a k ∧ count a 512 ≤ j) := by
  obtain ⟨hlen, hget⟩ := flagged a 512
  have hmap : ((List.finRange 512).filter fun t : Fin 512 => fires a t).map Fin.val = (List.range 512).filter (fires a) := by
    rw [← List.map_coe_finRange_eq_range, List.filter_map]; rfl
  have hl : ((List.finRange 512).filter fun t : Fin 512 => fires a t).length = count a 512 := by
    rw [← hlen, ← hmap, List.length_map]
  have hs : sortPositions 512 (before fun t : Fin 512 => fires a t) =
      (List.finRange 512).filter (fun t : Fin 512 => fires a t) ++ (List.finRange 512).filter fun t : Fin 512 => !fires a t :=
    sort_flags _ _
  have hk' : some k = ((List.finRange 512).filter (fun t : Fin 512 => fires a t) ++ (List.finRange 512).filter fun t : Fin 512 => !fires a t)[j.val]? := by
    rw [hk, ← hs, sortedFrom, List.getElem?_eq_getElem (by rw [length_sortPositions]; exact j.isLt)]; rfl
  rcases Nat.lt_or_ge j.val ((List.finRange 512).filter fun t : Fin 512 => fires a t).length with h | h
  · left
    rw [List.getElem?_append_left h] at hk'
    have h2 : some k.val = ((List.range 512).filter (fires a))[j.val]? := by
      rw [← hmap, List.getElem?_map, ← hk']; rfl
    have hj : j.val < ((List.range 512).filter (fires a)).length := by rw [hlen, ← hl]; exact h
    rw [List.getElem?_eq_getElem hj] at h2
    rw [Option.some.inj h2]
    exact hget j.val hj
  · right
    rw [List.getElem?_append_right h] at hk'
    have h2 := List.mem_of_getElem? hk'.symm
    have h3 := (List.mem_filter.1 h2).2
    exact ⟨by simpa [fires] using h3, by rw [← hl]; exact h⟩

end Rows

end Cert.Spec

end
-- ==== Proof.Post.lean ====
module

public import proofs.«01_k».proof.Proof.Loop
public import proofs.«01_k».proof.Proof.Order
public import proofs.«01_k».proof.Proof.Results

@[expose] public section

set_option maxRecDepth 16384

/-! What the reference makes of its loop's results: the levels, and the segments in the order of the rows that end them. -/

noncomputable section

namespace Cert.ReferenceIdeal.Value

open Cert.ReferenceIdeal Cert.ReferenceIdeal.Gen
open Idealize.ShloMosaic Idealize.ShloMosaic.TcCoe Idealize.SL.Sem
open Idealize.ShloMosaic.StableHlo

/-! ## Rows taken by their numbers -/

section Take

variable {α : Type} (idx : IVec S16x512x1 32) (b : Fin 16) (j : Fin 512) (n : Fin 512) (hn : (idx (ix3 b j 0)).toInt = n.val)

include hn

theorem take3 (x : S16x512x512.Idx → α) (d : Fin 512) :
    Host.gather gather_S16x512x512_S16x512x1_S16x512x512_2_1_0_0_1_2_11512 x idx (ix3 b j d) = x (ix3 b n d) := by
  unfold Host.gather
  refine congrArg x (funext fun a => Fin.ext ?_)
  have hs : ∀ h, gather_S16x512x512_S16x512x1_S16x512x512_2_1_0_0_1_2_11512.siIdx (ix3 b j d) ⟨0, h⟩ = ix3 b j 0 := fun h => by
    funext a
    refine Fin.ext ?_
    match a with
    | ⟨0, _⟩ => rfl
    | ⟨1, _⟩ => rfl
    | ⟨2, _⟩ => rfl
  match a with
  | ⟨0, _⟩ => exact Nat.zero_add _
  | ⟨1, _⟩ =>
    refine (congrArg (fun v => min (idx v).toInt.toNat 511 + 0 + 0) (hs Nat.zero_lt_one)).trans ?_
    change min (idx (ix3 b j 0)).toInt.toNat 511 + 0 + 0 = n.val
    rw [hn]
    omega
  | ⟨2, _⟩ => exact Nat.zero_add _

theorem take2 (x : S16x512.Idx → α) :
    Host.gather gather_S16x512_S16x512x1_S16x512_n_1_0_0_1_2_11 x idx (ix2 b j) = x (ix2 b n) := by
  unfold Host.gather
  refine congrArg x (funext fun a => Fin.ext ?_)
  have hs : ∀ h, gather_S16x512_S16x512x1_S16x512_n_1_0_0_1_2_11.siIdx (ix2 b j) ⟨0, h⟩ = ix3 b j 0 := fun h => by
    funext a
    refine Fin.ext ?_
    match a with
    | ⟨0, _⟩ => rfl
    | ⟨1, _⟩ => rfl
    | ⟨2, _⟩ => rfl
  match a with
  | ⟨0, _⟩ => exact Nat.zero_add _
  | ⟨1, _⟩ =>
    refine (congrArg (fun v => min (idx v).toInt.toNat 511 + 0 + 0) (hs Nat.zero_lt_one)).trans ?_
    change min (idx (ix3 b j 0)).toInt.toNat 511 + 0 + 0 = n.val
    rw [hn]
    omega

end Take

/-! ## The rows in their order -/

section Sorted

variable (x : FVec Ideal S512x16 .f32)

/-- The rows' numbers. -/
abbrev numbers : IVec S16x512 32 := broadcastInDim S16x512 ![1] bcast_S512_S16x512_1 (iotaInDim S512 32 0)

theorem numbers_at (b : Fin 16) (t : Fin 512) : numbers (ix2 b t) = BitVec.ofNat 32 t.val := by
  pointwise

/-- A number counted from the end when it is below zero. -/
abbrev wrapped (v : IVec S16x512 32) : IVec S16x512x1 32 :=
  broadcastInDim S16x512x1 ![0, 1] bcast_S16x512_S16x512x1_0_1
    (select (cmpi .slt v (broadcastInDim S16x512 ![] bcast_S_S16x512 (constantI S_ 32 0#32)))
      (addi v (broadcastInDim S16x512 ![] bcast_S_S16x512 (constantI S_ 32 512#32))) v)

theorem wrapped_at (v : IVec S16x512 32) (b : Fin 16) (j : Fin 512) (h : 0 ≤ (v (ix2 b j)).toInt) : wrapped v (ix3 b j 0) = v (ix2 b j) := by
  refine Eq.trans ?_ (select_slt_zero_of_nonneg v (addi v (constantI S16x512 32 512#32)) v (ix2 b j) h)
  pointwise

/-- Where a level has reached one, the sort's keys, the rows' numbers sorted by them, and those as the gathers take them. -/
abbrev fired : IVec S16x512 1 :=
  cmpf .oge (transpose S16x512 [1, 0] x transposes_S512x16_S16x512_1_0) (broadcastInDim S16x512 ![] bcast_S_S16x512 (constant (F := Ideal) S_ .f32 0x3F800000#32))
abbrev keys : IVec S16x512 32 :=
  select (fired x) (broadcastInDim S16x512 ![1] bcast_S512_S16x512_1 (broadcastInDim S512 ![] bcast_S_S512 (constantI S_ 32 0#32)))
    (broadcastInDim S16x512 ![1] bcast_S512_S16x512_1 (broadcastInDim S512 ![] bcast_S_S512 (constantI S_ 32 1#32)))
abbrev sorted : IVec S16x512 32 :=
  (Host.sort2 S16x512 1 comparator_i32_i32_d1 (keys x) numbers).2
abbrev rows : IVec S16x512x1 32 := wrapped (sorted x)

theorem fired_at (b : Fin 16) (t : Fin 512) : fired x (ix2 b t) = Ideal.cmp .oge (x (ix2 t b)) 1 := by
  pointwise

theorem keys_at (b : Fin 16) (t : Fin 512) : keys x (ix2 b t) = Scalar.select (Ideal.cmp .oge (x (ix2 t b)) 1) 0#32 1#32 := by
  pointwise

variable {x} {a : Fin 512 → EReal} {b : Fin 16} (hx : ∀ t : Fin 512, x (ix2 t b) = Spec.level a t)

include hx

theorem fired_eq (t : Fin 512) : fired x (ix2 b t) = BitVec.ofBool (Spec.fires a t) := by
  rw [fired_at, hx]
  by_cases h : (1 : EReal) ≤ Spec.level a t <;> simp [Ideal.cmp, Spec.fires, h]

theorem keys_eq (t : Fin 512) : keys x (ix2 b t) = if Spec.fires a t then 0#32 else 1#32 := by
  rw [keys_at, hx]
  by_cases h : (1 : EReal) ≤ Spec.level a t <;> simp [Ideal.cmp, Spec.fires, h, Scalar.select]

/-- Row `j` in the order. -/
abbrev place (a : Fin 512 → EReal) (j : Fin 512) : Fin 512 := sortedFrom (Spec.before fun t : Fin 512 => Spec.fires a t) j

theorem along_eq (j k : Fin 512) : Shape.Idx.along (s := S16x512) (ix2 b j) 1 k = ix2 b k := by
  funext c
  match c with
  | ⟨0, _⟩ => rfl
  | ⟨1, _⟩ => rfl

theorem sorted_eq (j : Fin 512) : sorted x (ix2 b j) = BitVec.ofNat 32 (place a j).val := by
  have e : (fun k k' : Fin 512 => comparator_i32_i32_d1
        (keys x (Shape.Idx.along (s := S16x512) (ix2 b j) 1 k), numbers (Shape.Idx.along (s := S16x512) (ix2 b j) 1 k))
        (keys x (Shape.Idx.along (s := S16x512) (ix2 b j) 1 k'), numbers (Shape.Idx.along (s := S16x512) (ix2 b j) 1 k')) == 1#1)
      = Spec.before fun t : Fin 512 => Spec.fires a t := by
    funext k k'
    simp only [along_eq hx, comparator_i32_i32_d1, keys_eq hx, Spec.before]
    cases Spec.fires a k <;> cases Spec.fires a k' <;> rfl
  have e2 : sorted x (ix2 b j) = numbers (Shape.Idx.along (s := S16x512) (ix2 b j) 1
      (sortedFrom (fun k k' : Fin 512 => comparator_i32_i32_d1
        (keys x (Shape.Idx.along (s := S16x512) (ix2 b j) 1 k), numbers (Shape.Idx.along (s := S16x512) (ix2 b j) 1 k))
        (keys x (Shape.Idx.along (s := S16x512) (ix2 b j) 1 k'), numbers (Shape.Idx.along (s := S16x512) (ix2 b j) 1 k')) == 1#1) j)) := rfl
  exact (e2.trans (congrArg (fun f : Fin 512 → Fin 512 → Bool => numbers (Shape.Idx.along (s := S16x512) (ix2 b j) 1 (sortedFrom f j))) e)).trans
    ((congrArg numbers (along_eq hx j (place a j))).trans (numbers_at b (place a j)))

theorem rows_eq (j : Fin 512) : (rows x (ix3 b j 0)).toInt = (place a j).val := by
  have hp : (BitVec.ofNat 32 (place a j).val).toInt = (place a j).val := toInt_ofNat_of_lt (by have := (place a j).isLt; omega)
  have e : rows x (ix3 b j 0) = BitVec.ofNat 32 (place a j).val := by
    refine (wrapped_at (sorted x) b j ?_).trans (sorted_eq hx j)
    rw [sorted_eq hx j, hp]
    omega
  rw [e, hp]

end Sorted

/-! ## The results -/

/-- The segment of a row in the order, kept when the row ends one. -/
theorem flag_at (a : Fin 512 → EReal) (h : Fin 512 → Fin 512 → EReal) (j k : Fin 512) (w : BitVec 1) (hw : w = BitVec.ofBool (Spec.fires a k))
    (hk : (1 ≤ Spec.level a k ∧ Spec.count a k = j) ∨ (¬ 1 ≤ Spec.level a k ∧ Spec.count a 512 ≤ j)) (d : Fin 512) :
    (Spec.segment a h k d * FloatOps.uitofp (F := Ideal) .f32 w : EReal) = Spec.acoustic a h j d := by
  rcases hk with ⟨h1, h2⟩ | ⟨h1, h2⟩
  · have hf : Spec.fires a k = true := by simp [Spec.fires, h1]
    rw [hf] at hw
    subst hw
    rw [← h2, Spec.acoustic_of_fire a h d k.isLt h1]
    have e : FloatOps.uitofp (F := Ideal) .f32 (BitVec.ofBool true) = (1 : EReal) := by
      change (((1#1 : BitVec 1).toNat : ℝ) : EReal) = 1
      simp
    rw [e, mul_one]
  · have hf : Spec.fires a k = false := by simp [Spec.fires, h1]
    rw [hf] at hw
    subst hw
    rw [Spec.acoustic, if_neg (by omega)]
    have e : FloatOps.uitofp (F := Ideal) .f32 (BitVec.ofBool false) = (0 : EReal) := by
      change (((0#1 : BitVec 1).toNat : ℝ) : EReal) = 0
      simp
    rw [e, mul_zero]

section Contents

variable {X : Valuation τ sig (Elt Ideal)} {A : Fin 16 → Fin 512 → EReal} {H : Fin 16 → Fin 512 → Fin 512 → EReal}
  (hX : Holds X A H 512)

include hX

theorem post_v79 (b : Fin 16) (t : Fin 512) : afterL postI X (Proc.devRef .tc main_v79) (ix2 b t) = Spec.level (A b) t := by
  refine Eq.trans ?_ (hX.levels b t t.isLt)
  simp only [afterL_cons, afterL_nil]
  after_reads_at

theorem post_v102 (b : Fin 16) (j d : Fin 512) : afterL postI X (Proc.devRef .tc main_v102) (ix3 b j d) = Spec.acoustic (A b) (H b) j d := by
  have hx : ∀ t : Fin 512, (X (Proc.devRef .tc main_v78_5) : FVec Ideal S512x16 .f32) (ix2 t b) = Spec.level (A b) t := fun t => hX.levels b t t.isLt
  simp only [afterL_cons, afterL_nil]
  after_reads_at
  refine Eq.trans (congrArg₂ (fun y z : EReal => y * z)
    ((take3 (rows (X (Proc.devRef .tc main_v78_5))) b j (place (A b) j) (rows_eq hx j)
      (transpose S16x512x512 [1, 0, 2] (X (Proc.devRef .tc main_v78_6) : FVec Ideal S512x16x512 .f32) transposes_S512x16x512_S16x512x512_1_0_2) d).trans ?_)
    (congrArg (FloatOps.uitofp (F := Ideal) .f32) (take2 (rows (X (Proc.devRef .tc main_v78_5))) b j (place (A b) j) (rows_eq hx j)
      (fired (X (Proc.devRef .tc main_v78_5)))))) (flag_at (A b) (H b) j (place (A b) j) _ (fired_eq hx _) (Spec.order (A b) j _ rfl) d)
  refine Eq.trans ?_ (hX.segments b (place (A b) j) d (place (A b) j).isLt)
  pointwise

end Contents

section Final

variable (m : (ℓ : Loc nD τ sig) → Buf (Elt Ideal) ℓ) (c : Dev nD) (hmask : ∀ i, maskOf m c i = (1 : EReal))

include hmask

theorem holds_final : Holds (after condOps (atK m 512 c)) (argsOf m c).a (argsOf m c).h 512 :=
  (holds_at m c hmask 512 le_rfl).congr (cond_keeps _)

/-- The levels. -/
theorem final_v79 : finalContents condOps preI bodyI postI 512 m c (Proc.devRef .tc main_v79) = (argsOf m c).levels := by
  funext i
  idx_vars i
  exact post_v79 (holds_final m c hmask) i0 i1

/-- The segments. -/
theorem final_v102 : finalContents condOps preI bodyI postI 512 m c (Proc.devRef .tc main_v102) = (argsOf m c).segments := by
  funext i
  idx_vars i
  exact post_v102 (holds_final m c hmask) i0 i1 i2

/-- The weights. -/
theorem final_v70 : finalContents condOps preI bodyI postI 512 m c (Proc.devRef .tc main_v70) = (argsOf m c).alphas := by
  rw [final_held m c main_v70 (by decide)]
  funext i
  idx_vars i
  exact entry_v70 m c hmask i0 i1

/-- The weights' sums. -/
theorem final_v71 : finalContents condOps preI bodyI postI 512 m c (Proc.devRef .tc main_v71) = (argsOf m c).tokenNum := by
  rw [final_held m c main_v71 (by decide)]
  funext i
  idx_vars i
  exact entry_v71 m c hmask i0

/-- The longer sequence's weights' sums. -/
theorem final_v51 (h0 : ∀ i, Pre_real_and_unmasked.Real ((argsOf m c).hidden i)) (h1 : ∀ i, Pre_real_and_unmasked.Real ((argsOf m c).convW i))
    (h2 : ∀ i, Pre_real_and_unmasked.Real ((argsOf m c).convB i)) (h3 : ∀ i, Pre_real_and_unmasked.Real ((argsOf m c).upW i))
    (h4 : ∀ i, Pre_real_and_unmasked.Real ((argsOf m c).out2W i)) :
    finalContents condOps preI bodyI postI 512 m c (Proc.devRef .tc main_v51) = (argsOf m c).tokenNum2 := by
  rw [final_held m c main_v51 (by decide)]
  funext i
  idx_vars i
  exact entry_v51 m c hmask h0 h1 h2 h3 h4 i0

end Final

end Cert.ReferenceIdeal.Value
-- ==== Proof.Algebraic.lean ====
module

public import proofs.«01_k».proof.Defs
public import proofs.«01_k».proof.Proof.Host
public import proofs.«01_k».proof.Proof.Post
public import proofs.«01_k».proof.Proof.Pre

@[expose] public section

set_option maxRecDepth 65536

/-! At exact arithmetic, on real arguments and an unmasked batch, kernel and reference end with the same five results. -/

noncomputable section

namespace Cert.Proof

open Idealize.ShloMosaic Idealize.SL.Sem

/-- The kernel and the reference give the same five results. -/
theorem algebraic : Cert.algebraic_KernelIdeal_ReferenceIdeal := by
  intro m g m' g' hpre harg
  have hA : ∀ c, Cert.ReferenceIdeal.Value.argsOf m' c = Cert.KernelIdeal.Run.argsOf m c := fun c => by
    obtain ⟨h0, h1, h2, h3, h4, h5, h6, h7, h8, h9⟩ := harg c
    unfold Cert.ReferenceIdeal.Value.argsOf Cert.KernelIdeal.Run.argsOf
    congr 1
  have hd := fun c => Cert.Pre_real_and_unmasked.decode (hpre c)
  have hmask : ∀ c i, Cert.ReferenceIdeal.Value.maskOf m' c i = (1 : EReal) := fun c i =>
    (congrFun (harg c).2.1 i).trans ((hd c).2.2.2.2.2 i)
  refine ⟨fun c => (Cert.KernelIdeal.Run.argsOf m c).segments, fun c => (Cert.KernelIdeal.Run.argsOf m c).tokenNum,
    fun c => (Cert.KernelIdeal.Run.argsOf m c).alphas, fun c => (Cert.KernelIdeal.Run.argsOf m c).levels,
    fun c => (Cert.KernelIdeal.Run.argsOf m c).tokenNum2, ?_, ?_⟩
  · refine (θ_run Cert.KernelIdeal.defs _ _).mono (fun r h c => ?_) (Cert.KernelIdeal.Run.ends (F := Ideal) m g)
    exact ⟨(Cert.KernelIdeal.Run.read m g (h.1 c) _ (by decide)).trans (Cert.KernelIdeal.Run.result_v36 m g c),
      (Cert.KernelIdeal.Run.read m g (h.1 c) _ (by decide)).trans (Cert.KernelIdeal.Run.result_v22 m g c),
      (Cert.KernelIdeal.Run.read m g (h.1 c) _ (by decide)).trans (Cert.KernelIdeal.Run.result_v20 m g c),
      (Cert.KernelIdeal.Run.read m g (h.1 c) _ (by decide)).trans (Cert.KernelIdeal.Run.result_v27 m g c),
      (Cert.KernelIdeal.Run.read m g (h.1 c) _ (by decide)).trans (Cert.KernelIdeal.Run.result_v24 m g c),
      Cert.KernelIdeal.Run.args m g (h.1 c)⟩
  · refine (θ_run Cert.ReferenceIdeal.defs _ _).mono (fun r h c => ?_) (Cert.ReferenceIdeal.Value.run_fold (F := Ideal) m' g')
    have e := hA c
    refine ⟨((h c _ (by decide)).trans (Cert.ReferenceIdeal.Value.final_v102 m' c (hmask c))).trans (by rw [e]),
      ((h c _ (by decide)).trans (Cert.ReferenceIdeal.Value.final_v71 m' c (hmask c))).trans (by rw [e]),
      ((h c _ (by decide)).trans (Cert.ReferenceIdeal.Value.final_v70 m' c (hmask c))).trans (by rw [e]),
      ((h c _ (by decide)).trans (Cert.ReferenceIdeal.Value.final_v79 m' c (hmask c))).trans (by rw [e]),
      ((h c _ (by decide)).trans (Cert.ReferenceIdeal.Value.final_v51 m' c (hmask c) ?_ ?_ ?_ ?_ ?_)).trans (by rw [e]),
      Cert.ReferenceIdeal.Value.args m' (h c)⟩ <;> rw [e]
    · exact (hd c).1
    · exact (hd c).2.1
    · exact (hd c).2.2.1
    · exact (hd c).2.2.2.1
    · exact (hd c).2.2.2.2.1

end Cert.Proof

end
-- ==== Proof.lean ====
/-
  The kernel's certificate: the programs run and leave their arguments and counters as they were, the
  kernel over the extended reals is the kernel's own text, and on real arguments and an unmasked batch
  it gives the reference's five results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts, Cert.Pre_real_and_unmasked.facts,
    frame_p, frame_pi, frame_pi_any, frame_ri, trivial, algebraic⟩

end Cert.Proof

end
